-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_n" .f32 0x3C820821#32 ((1 / 63 : ℝ) : EReal)
  ∧ IdealRules.named_const.Statement Cert.KernelIdeal.κ "inv_m" .f32 0x39AAAAAB#32 ((1 / 3072 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x64x6x256 : Shape := ⟨4, ![8, 64, 6, 256]⟩
abbrev S8x64x64 : Shape := ⟨3, ![8, 64, 64]⟩
abbrev S256x256 : Shape := ⟨2, ![256, 256]⟩
abbrev S256 : Shape := ⟨1, ![256]⟩
abbrev S768 : Shape := ⟨1, ![768]⟩
abbrev S_ : Shape := ⟨0, ![]⟩

class Facts : Prop where
  bcast_S_S8x64x6x256 : S_.BroadcastsInDim S8x64x6x256 (![] : Fin 0 → Fin S8x64x6x256.rank)
  reducesTo_S8x64x6x256_S_d0_1_2_3 : S8x64x6x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768 : S_.BroadcastsInDim S768 (![] : Fin 0 → Fin S768.rank)
  reducesTo_S768_S_d0 : S768.ReducesTo [0] S_

variable [Facts]

def fn_part2 {F : FTy → Type} [FloatOps F] (main_arg10 : FVec F S768 .f32) (main_arg11 : FVec F S768 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S768 .f32 := Host.absf main_arg10
  let main_cst_14 : FVec F S_ .f32 := constant S_ .f32 0x7F800000#32
  let main_v33 : FVec F S768 .f32 := broadcastInDim S768 ![] bcast_S_S768 main_cst_14
  let main_v34 : IVec S768 1 := cmpf .olt main_v32 main_v33
  let main_c_15 : IVec S_ 1 := constantI S_ 1 1#1
  let main_v35 : IVec S_ 1 := (fun x v => Host.reduce IntOp.andi x v reducesTo_S768_S_d0 h_S_) main_v34 main_c_15
  let main_v36 : FVec F S768 .f32 := Host.absf main_arg11
  let main_cst_16 : FVec F S_ .f32 := constant S_ .f32 0x7F800000#32
  let main_v37 : FVec F S768 .f32 := broadcastInDim S768 ![] bcast_S_S768 main_cst_16
  let main_v38 : IVec S768 1 := cmpf .olt main_v36 main_v37
  let main_c_17 : IVec S_ 1 := constantI S_ 1 1#1
  let main_v39 : IVec S_ 1 := (fun x v => Host.reduce IntOp.andi x v reducesTo_S768_S_d0 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg6 : FVec F S256x256 .f32) (main_arg7 : FVec F S256 .f32) (main_arg8 : FVec F S256x256 .f32) (main_arg9 : FVec F S256 .f32) (main_arg10 : FVec F S768 .f32) (main_arg11 : FVec F S768 .f32) (main_v3 : IVec S_ 1) (main_v7 : IVec S_ 1) (main_v11 : IVec S_ 1) (main_v15 : IVec S_ 1) : IVec S_ 1 :=
  let main_v16 : FVec F S256x256 .f32 := Host.absf main_arg6
  let main_cst_6 : FVec F S_ .f32 := constant S_ .f32 0x7F800000#32
  let main_v17 : FVec F S256x256 .f32 := broadcastInDim S256x256 ![] bcast_S_S256x256 main_cst_6
  let main_v18 : IVec S256x256 1 := cmpf .olt main_v16 main_v17
  let main_c_7 : IVec S_ 1 := constantI S_ 1 1#1
  let main_v19 : IVec S_ 1 := (fun x v => Host.reduce IntOp.andi x v reducesTo_S256x256_S_d0_1 h_S_) main_v18 main_c_7
  let main_v20 : FVec F S256 .f32 := Host.absf main_arg7
  let main_cst_8 : FVec F S_ .f32 := constant S_ .f32 0x7F800000#32
  let main_v21 : FVec F S256 .f32 := broadcastInDim S256 ![] bcast_S_S256 main_cst_8
  let main_v22 : IVec S256 1 := cmpf .olt main_v20 main_v21
  let main_c_9 : IVec S_ 1 := constantI S_ 1 1#1
  let main_v23 : IVec S_ 1 := (fun x v => Host.reduce IntOp.andi x v reducesTo_S256_S_d0 h_S_) main_v22 main_c_9
  let main_v24 : FVec F S256x256 .f32 := Host.absf main_arg8
  let main_cst_10 : FVec F S_ .f32 := constant S_ .f32 0x7F800000#32
  let main_v25 : FVec F S256x256 .f32 := broadcastInDim S256x256 ![] bcast_S_S256x256 main_cst_10
  let main_v26 : IVec S256x256 1 := cmpf .olt main_v24 main_v25
  let main_c_11 : IVec S_ 1 := constantI S_ 1 1#1
  let main_v27 : IVec S_ 1 := (fun x v => Host.reduce IntOp.andi x v reducesTo_S256x256_S_d0_1 h_S_) main_v26 main_c_11
  let main_v28 : FVec F S256 .f32 := Host.absf main_arg9
  let main_cst_12 : FVec F S_ .f32 := constant S_ .f32 0x7F800000#32
  let main_v29 : FVec F S256 .f32 := broadcastInDim S256 ![] bcast_S_S256 main_cst_12
  let main_v30 : IVec S256 1 := cmpf .olt main_v28 main_v29
  let main_c_13 : IVec S_ 1 := constantI S_ 1 1#1
  let main_v31 : IVec S_ 1 := (fun x v => Host.reduce IntOp.andi x v reducesTo_S256_S_d0 h_S_) main_v30 main_c_13
  fn_part2 (F := F) main_arg10 main_arg11 main_v3 main_v7 main_v11 main_v15 main_v19 main_v23 main_v27 main_v31

def fn {F : FTy → Type} [FloatOps F] (main_arg0 : FVec F S8x64x6x256 .f32) (main_arg1 : FVec F S8x64x6x256 .f32) (main_arg2 : FVec F S8x64x64 .f32) (main_arg3 : FVec F S8x64x64 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S768 .f32) (main_arg11 : FVec F S768 .f32) : IVec S_ 1 :=
  let main_v0 : FVec F S8x64x6x256 .f32 := Host.absf main_arg0
  let main_cst : FVec F S_ .f32 := constant S_ .f32 0x7F800000#32
  let main_v1 : FVec F S8x64x6x256 .f32 := broadcastInDim S8x64x6x256 ![] bcast_S_S8x64x6x256 main_cst
  let main_v2 : IVec S8x64x6x256 1 := cmpf .olt main_v0 main_v1
  let main_c : IVec S_ 1 := constantI S_ 1 1#1
  let main_v3 : IVec S_ 1 := (fun x v => Host.reduce IntOp.andi x v reducesTo_S8x64x6x256_S_d0_1_2_3 h_S_) main_v2 main_c
  let main_v4 : FVec F S8x64x6x256 .f32 := Host.absf main_arg1
  let main_cst_0 : FVec F S_ .f32 := constant S_ .f32 0x7F800000#32
  let main_v5 : FVec F S8x64x6x256 .f32 := broadcastInDim S8x64x6x256 ![] bcast_S_S8x64x6x256 main_cst_0
  let main_v6 : IVec S8x64x6x256 1 := cmpf .olt main_v4 main_v5
  let main_c_1 : IVec S_ 1 := constantI S_ 1 1#1
  let main_v7 : IVec S_ 1 := (fun x v => Host.reduce IntOp.andi x v reducesTo_S8x64x6x256_S_d0_1_2_3 h_S_) main_v6 main_c_1
  let main_v8 : FVec F S256x256 .f32 := Host.absf main_arg4
  let main_cst_2 : FVec F S_ .f32 := constant S_ .f32 0x7F800000#32
  let main_v9 : FVec F S256x256 .f32 := broadcastInDim S256x256 ![] bcast_S_S256x256 main_cst_2
  let main_v10 : IVec S256x256 1 := cmpf .olt main_v8 main_v9
  let main_c_3 : IVec S_ 1 := constantI S_ 1 1#1
  let main_v11 : IVec S_ 1 := (fun x v => Host.reduce IntOp.andi x v reducesTo_S256x256_S_d0_1 h_S_) main_v10 main_c_3
  let main_v12 : FVec F S256 .f32 := Host.absf main_arg5
  let main_cst_4 : FVec F S_ .f32 := constant S_ .f32 0x7F800000#32
  let main_v13 : FVec F S256 .f32 := broadcastInDim S256 ![] bcast_S_S256 main_cst_4
  let main_v14 : IVec S256 1 := cmpf .olt main_v12 main_v13
  let main_c_5 : IVec S_ 1 := constantI S_ 1 1#1
  let main_v15 : IVec S_ 1 := (fun x v => Host.reduce IntOp.andi x v reducesTo_S256_S_d0 h_S_) main_v14 main_c_5
  fn_part1 (F := F) main_arg6 main_arg7 main_arg8 main_arg9 main_arg10 main_arg11 main_v3 main_v7 main_v11 main_v15
-- ==== Kernel.lean ====
abbrev S8x64x6x256 : Shape := ⟨4, ![8, 64, 6, 256]⟩
abbrev S8x64x64 : Shape := ⟨3, ![8, 64, 64]⟩
abbrev S256x256 : Shape := ⟨2, ![256, 256]⟩
abbrev S256 : Shape := ⟨1, ![256]⟩
abbrev S768 : Shape := ⟨1, ![768]⟩
abbrev S8x6x64x256 : Shape := ⟨4, ![8, 6, 64, 256]⟩
abbrev S3072x256 : Shape := ⟨2, ![3072, 256]⟩
abbrev S1x3072x256 : Shape := ⟨3, ![1, 3072, 256]⟩
abbrev S2x3072x256 : Shape := ⟨3, ![2, 3072, 256]⟩
abbrev S1x256 : Shape := ⟨2, ![1, 256]⟩
abbrev S1x768 : Shape := ⟨2, ![1, 768]⟩
abbrev S16x384x768 : Shape := ⟨3, ![16, 384, 768]⟩
abbrev S1x384x768 : Shape := ⟨3, ![1, 384, 768]⟩
abbrev S3072x768 : Shape := ⟨2, ![3072, 768]⟩
abbrev S64x64 : Shape := ⟨2, ![64, 64]⟩
abbrev S64x1 : Shape := ⟨2, ![64, 1]⟩
abbrev S1x64x256 : Shape := ⟨3, ![1, 64, 256]⟩
abbrev S64x256 : Shape := ⟨2, ![64, 256]⟩
abbrev S64 : Shape := ⟨1, ![64]⟩
abbrev S1x64 : Shape := ⟨2, ![1, 64]⟩
abbrev S3072 : Shape := ⟨1, ![3072]⟩
abbrev S3072x1 : Shape := ⟨2, ![3072, 1]⟩
abbrev S48x64x256 : Shape := ⟨3, ![48, 64, 256]⟩
abbrev S48x256 : Shape := ⟨2, ![48, 256]⟩
abbrev S48x1x256 : Shape := ⟨3, ![48, 1, 256]⟩
abbrev S384x768 : Shape := ⟨2, ![384, 768]⟩
abbrev S8x384x768 : Shape := ⟨3, ![8, 384, 768]⟩
abbrev S8x6x64x768 : Shape := ⟨4, ![8, 6, 64, 768]⟩
abbrev S8x64x6x768 : Shape := ⟨4, ![8, 64, 6, 768]⟩

abbrev nBuf : Space → Nat
  | .hbm => 34
  | .vmem => 17
  | .smem => 0
  | _ => 0

abbrev bufTy : (tb : Table) → Fin (tcTables nBuf tb) → BufTy
  | .hbm, ⟨0, _⟩ => ⟨S8x64x6x256, .f32⟩
  | .hbm, ⟨1, _⟩ => ⟨S8x64x6x256, .f32⟩
  | .hbm, ⟨2, _⟩ => ⟨S8x64x64, .f32⟩
  | .hbm, ⟨3, _⟩ => ⟨S8x64x64, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768, .f32⟩
  | .hbm, ⟨11, _⟩ => ⟨S768, .f32⟩
  | .hbm, ⟨12, _⟩ => ⟨S8x6x64x256, .f32⟩
  | .hbm, ⟨13, _⟩ => ⟨S3072x256, .f32⟩
  | .hbm, ⟨14, _⟩ => ⟨S8x6x64x256, .f32⟩
  | .hbm, ⟨15, _⟩ => ⟨S3072x256, .f32⟩
  | .hbm, ⟨16, _⟩ => ⟨S1x3072x256, .f32⟩
  | .hbm, ⟨17, _⟩ => ⟨S1x3072x256, .f32⟩
  | .hbm, ⟨18, _⟩ => ⟨S2x3072x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x768, .f32⟩
  | .hbm, ⟨26, _⟩ => ⟨S1x768, .f32⟩
  | .hbm, ⟨27, _⟩ => ⟨S16x384x768, .f32⟩
  | .hbm, ⟨28, _⟩ => ⟨S8x384x768, .f32⟩
  | .hbm, ⟨29, _⟩ => ⟨S8x6x64x768, .f32⟩
  | .hbm, ⟨30, _⟩ => ⟨S8x64x6x768, .f32⟩
  | .hbm, ⟨31, _⟩ => ⟨S8x384x768, .f32⟩
  | .hbm, ⟨32, _⟩ => ⟨S8x6x64x768, .f32⟩
  | .hbm, ⟨33, _⟩ => ⟨S8x64x6x768, .f32⟩
  | .local _ .vmem, ⟨0, _⟩ => ⟨S1x3072x256, .f32⟩
  | .local _ .vmem, ⟨1, _⟩ => ⟨S1x3072x256, .f32⟩
  | .local _ .vmem, ⟨2, _⟩ => ⟨S1x3072x256, .f32⟩
  | .local _ .vmem, ⟨3, _⟩ => ⟨S1x3072x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x768, .f32⟩
  | .local _ .vmem, ⟨11, _⟩ => ⟨S1x768, .f32⟩
  | .local _ .vmem, ⟨12, _⟩ => ⟨S1x384x768, .f32⟩
  | .local _ .vmem, ⟨13, _⟩ => ⟨S1x384x768, .f32⟩
  | .local _ .vmem, ⟨14, _⟩ => ⟨S3072x768, .f32⟩
  | .local _ .vmem, ⟨15, _⟩ => ⟨S1x768, .f32⟩
  | .local _ .vmem, ⟨16, _⟩ => ⟨S1x768, .f32⟩
  | _, _ => ⟨S8x64x6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 9], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg1 : BitVec 32 := BitVec.ofNat 32 (i 1).val
  let c1_i32 : BitVec 32 := 1#32
  let v26 : BitVec 32 := Scalar.subi arg1 c1_i32
  let c384_i32 : BitVec 32 := 384#32
  let v27 : BitVec 32 := Scalar.muli v26 c384_i32
  let v28 : Index := Scalar.indexCast v27
  let c0_13 : Index := 0#32
  ![v28.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  let c0_i32_2 : BitVec 32 := 0#32
  ![v3.toNat, c0_i32_0.toNat, c0_i32_1.toNat]

abbrev stage0_0 : Fin 2 → Memref sig .tc .vmem S1x3072x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3072x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x384x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_m" => some ((1 / 3072 : ℝ) : EReal)
  | "inv_n" => some ((1 / 63 : ℝ) : EReal)
  | _ => none
-- ==== ReferenceIdeal.lean ====
abbrev S8x64x6x256 : Shape := ⟨4, ![8, 64, 6, 256]⟩
abbrev S8x64x64 : Shape := ⟨3, ![8, 64, 64]⟩
abbrev S256x256 : Shape := ⟨2, ![256, 256]⟩
abbrev S256 : Shape := ⟨1, ![256]⟩
abbrev S768 : Shape := ⟨1, ![768]⟩
abbrev S_ : Shape := ⟨0, ![]⟩
abbrev S8x6x256 : Shape := ⟨3, ![8, 6, 256]⟩
abbrev S8x1x6x256 : Shape := ⟨4, ![8, 1, 6, 256]⟩
abbrev S8x64x1536 : Shape := ⟨3, ![8, 64, 1536]⟩
abbrev S8x64 : Shape := ⟨2, ![8, 64]⟩
abbrev S8x64x1 : Shape := ⟨3, ![8, 64, 1]⟩
abbrev S8x1x64 : Shape := ⟨3, ![8, 1, 64]⟩
abbrev S1x1x1x256 : Shape := ⟨4, ![1, 1, 1, 256]⟩
abbrev S8x64x6x768 : Shape := ⟨4, ![8, 64, 6, 768]⟩
abbrev S8x64x6 : Shape := ⟨3, ![8, 64, 6]⟩
abbrev S8x64x6x1 : Shape := ⟨4, ![8, 64, 6, 1]⟩
abbrev S512x6x768 : Shape := ⟨3, ![512, 6, 768]⟩
abbrev S512x768x6 : Shape := ⟨3, ![512, 768, 6]⟩
abbrev S1x768x1 : Shape := ⟨3, ![1, 768, 1]⟩

abbrev nBuf : Space → Nat
  | .hbm => 204
  | .vmem => 0
  | .smem => 0
  | _ => 0

abbrev hbmTy0_0 (i : Nat) : BufTy := match i % 128 with
  | 0 => ⟨S8x64x6x256, .f32⟩
  | 1 => ⟨S8x64x6x256, .f32⟩
  | 2 => ⟨S8x64x64, .f32⟩
  | 3 => ⟨S8x64x64, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S768, .f32⟩
  | 11 => ⟨S768, .f32⟩
  | 12 => ⟨S_, .f32⟩
  | 13 => ⟨S8x6x256, .f32⟩
  | 14 => ⟨S8x1x6x256, .f32⟩
  | 15 => ⟨S8x64x6x256, .f32⟩
  | 16 => ⟨S8x64x6x256, .f32⟩
  | 17 => ⟨S_, .f32⟩
  | 18 => ⟨S8x64x6x256, .f32⟩
  | 19 => ⟨S8x64x6x256, .f32⟩
  | 20 => ⟨S_, .f32⟩
  | 21 => ⟨S8x6x256, .f32⟩
  | 22 => ⟨S8x1x6x256, .f32⟩
  | 23 => ⟨S8x64x6x256, .f32⟩
  | 24 => ⟨S8x64x6x256, .f32⟩
  | 25 => ⟨S_, .f32⟩
  | 26 => ⟨S8x64x6x256, .f32⟩
  | 27 => ⟨S8x64x6x256, .f32⟩
  | 28 => ⟨S8x64x1536, .f32⟩
  | 29 => ⟨S8x64x1536, .f32⟩
  | 30 => ⟨S8x64x64, .f32⟩
  | 31 => ⟨S8x64x1536, .f32⟩
  | 32 => ⟨S_, .f32⟩
  | 33 => ⟨S8x64, .f32⟩
  | 34 => ⟨S8x64, .f32⟩
  | 35 => ⟨S_, .f32⟩
  | 36 => ⟨S8x64, .f32⟩
  | 37 => ⟨S8x64, .f32⟩
  | 38 => ⟨S8x64x1536, .f32⟩
  | 39 => ⟨S_, .f32⟩
  | 40 => ⟨S8x64, .f32⟩
  | 41 => ⟨S8x64, .f32⟩
  | 42 => ⟨S_, .f32⟩
  | 43 => ⟨S8x64, .f32⟩
  | 44 => ⟨S8x64, .f32⟩
  | 45 => ⟨S8x64x1, .f32⟩
  | 46 => ⟨S8x1x64, .f32⟩
  | 47 => ⟨S8x64x64, .f32⟩
  | 48 => ⟨S8x64x64, .f32⟩
  | 49 => ⟨S8x64x64, .f32⟩
  | 50 => ⟨S8x64x64, .f32⟩
  | 51 => ⟨S_, .f32⟩
  | 52 => ⟨S8x64, .f32⟩
  | 53 => ⟨S_, .f32⟩
  | 54 => ⟨S8x64, .f32⟩
  | 55 => ⟨S8x64, .f32⟩
  | 56 => ⟨S8x64x1, .f32⟩
  | 57 => ⟨S8x64x64, .f32⟩
  | 58 => ⟨S8x64x64, .f32⟩
  | 59 => ⟨S8x64x64, .f32⟩
  | 60 => ⟨S_, .f32⟩
  | 61 => ⟨S8x64, .f32⟩
  | 62 => ⟨S8x64x1, .f32⟩
  | 63 => ⟨S8x64x64, .f32⟩
  | 64 => ⟨S8x64x64, .f32⟩
  | 65 => ⟨S8x64x64, .f32⟩
  | 66 => ⟨S_, .f32⟩
  | 67 => ⟨S8x64, .f32⟩
  | 68 => ⟨S_, .f32⟩
  | 69 => ⟨S8x64, .f32⟩
  | 70 => ⟨S8x64, .f32⟩
  | 71 => ⟨S8x64x1, .f32⟩
  | 72 => ⟨S8x64x64, .f32⟩
  | 73 => ⟨S8x64x64, .f32⟩
  | 74 => ⟨S8x64x64, .f32⟩
  | 75 => ⟨S_, .f32⟩
  | 76 => ⟨S8x64, .f32⟩
  | 77 => ⟨S8x64x1, .f32⟩
  | 78 => ⟨S8x64x64, .f32⟩
  | 79 => ⟨S8x64x64, .f32⟩
  | 80 => ⟨S8x64x1536, .f32⟩
  | 81 => ⟨S8x64x1536, .f32⟩
  | 82 => ⟨S8x64x6x256, .f32⟩
  | 83 => ⟨S8x64x1536, .f32⟩
  | 84 => ⟨S8x64x1536, .f32⟩
  | 85 => ⟨S8x64x6x256, .f32⟩
  | 86 => ⟨S8x64x6x256, .f32⟩
  | 87 => ⟨S1x1x1x256, .f32⟩
  | 88 => ⟨S8x64x6x256, .f32⟩
  | 89 => ⟨S8x64x6x256, .f32⟩
  | 90 => ⟨S8x64x6x256, .f32⟩
  | 91 => ⟨S1x1x1x256, .f32⟩
  | 92 => ⟨S8x64x6x256, .f32⟩
  | 93 => ⟨S8x64x6x256, .f32⟩
  | 94 => ⟨S8x64x6x256, .f32⟩
  | 95 => ⟨S1x1x1x256, .f32⟩
  | 96 => ⟨S8x64x6x256, .f32⟩
  | 97 => ⟨S8x64x6x256, .f32⟩
  | 98 => ⟨S8x64x6x768, .f32⟩
  | 99 => ⟨S8x64x6x256, .f32⟩
  | 100 => ⟨S1x1x1x256, .f32⟩
  | 101 => ⟨S8x64x6x256, .f32⟩
  | 102 => ⟨S8x64x6x256, .f32⟩
  | 103 => ⟨S8x64x6x256, .f32⟩
  | 104 => ⟨S1x1x1x256, .f32⟩
  | 105 => ⟨S8x64x6x256, .f32⟩
  | 106 => ⟨S8x64x6x256, .f32⟩
  | 107 => ⟨S8x64x6x256, .f32⟩
  | 108 => ⟨S1x1x1x256, .f32⟩
  | 109 => ⟨S8x64x6x256, .f32⟩
  | 110 => ⟨S8x64x6x256, .f32⟩
  | 111 => ⟨S8x64x6x768, .f32⟩
  | 112 => ⟨S8x64x6x768, .f32⟩
  | 113 => ⟨S_, .f32⟩
  | 114 => ⟨S8x64x6, .f32⟩
  | 115 => ⟨S8x64x6x1, .f32⟩
  | 116 => ⟨S8x64x6x1, .f32⟩
  | 117 => ⟨S_, .f32⟩
  | 118 => ⟨S8x64x6x1, .f32⟩
  | 119 => ⟨S8x64x6x1, .f32⟩
  | 120 => ⟨S8x64x6x768, .f32⟩
  | 121 => ⟨S8x64x6x768, .f32⟩
  | 122 => ⟨S_, .f32⟩
  | 123 => ⟨S8x64x6x768, .f32⟩
  | 124 => ⟨S8x64x6x768, .f32⟩
  | 125 => ⟨S512x6x768, .f32⟩
  | 126 => ⟨S512x768x6, .f32⟩
  | 127 => ⟨S_, .f32⟩
  | _ => ⟨S8x64x6x256, .f32⟩

abbrev hbmTy0_1 (i : Nat) : BufTy := match i % 128 with
  | 0 => ⟨S768, .f32⟩
  | 1 => ⟨S1x768x1, .f32⟩
  | 2 => ⟨S_, .f32⟩
  | 3 => ⟨S1x768x1, .f32⟩
  | 4 => ⟨S1x768x1, .f32⟩
  | 5 => ⟨S512x768x6, .f32⟩
  | 6 => ⟨S512x768x6, .f32⟩
  | 7 => ⟨S512x768x6, .f32⟩
  | 8 => ⟨S_, .f32⟩
  | 9 => ⟨S768, .f32⟩
  | 10 => ⟨S1x768x1, .f32⟩
  | 11 => ⟨S_, .f32⟩
  | 12 => ⟨S1x768x1, .f32⟩
  | 13 => ⟨S1x768x1, .f32⟩
  | 14 => ⟨S1x768x1, .f32⟩
  | 15 => ⟨S512x768x6, .f32⟩
  | 16 => ⟨S512x768x6, .f32⟩
  | 17 => ⟨S512x768x6, .f32⟩
  | 18 => ⟨S512x768x6, .f32⟩
  | 19 => ⟨S_, .f32⟩
  | 20 => ⟨S1x768x1, .f32⟩
  | 21 => ⟨S1x768x1, .f32⟩
  | 22 => ⟨S1x768x1, .f32⟩
  | 23 => ⟨S512x768x6, .f32⟩
  | 24 => ⟨S512x768x6, .f32⟩
  | 25 => ⟨S1x768x1, .f32⟩
  | 26 => ⟨S512x768x6, .f32⟩
  | 27 => ⟨S512x768x6, .f32⟩
  | 28 => ⟨S512x6x768, .f32⟩
  | 29 => ⟨S8x64x6x768, .f32⟩
  | 30 => ⟨S8x64x6x768, .f32⟩
  | 31 => ⟨S_, .f32⟩
  | 32 => ⟨S8x64x6, .f32⟩
  | 33 => ⟨S8x64x6x1, .f32⟩
  | 34 => ⟨S8x64x6x1, .f32⟩
  | 35 => ⟨S_, .f32⟩
  | 36 => ⟨S8x64x6x1, .f32⟩
  | 37 => ⟨S8x64x6x1, .f32⟩
  | 38 => ⟨S8x64x6x768, .f32⟩
  | 39 => ⟨S8x64x6x768, .f32⟩
  | 40 => ⟨S_, .f32⟩
  | 41 => ⟨S8x64x6x768, .f32⟩
  | 42 => ⟨S8x64x6x768, .f32⟩
  | 43 => ⟨S512x6x768, .f32⟩
  | 44 => ⟨S512x768x6, .f32⟩
  | 45 => ⟨S_, .f32⟩
  | 46 => ⟨S768, .f32⟩
  | 47 => ⟨S1x768x1, .f32⟩
  | 48 => ⟨S_, .f32⟩
  | 49 => ⟨S1x768x1, .f32⟩
  | 50 => ⟨S1x768x1, .f32⟩
  | 51 => ⟨S512x768x6, .f32⟩
  | 52 => ⟨S512x768x6, .f32⟩
  | 53 => ⟨S512x768x6, .f32⟩
  | 54 => ⟨S_, .f32⟩
  | 55 => ⟨S768, .f32⟩
  | 56 => ⟨S1x768x1, .f32⟩
  | 57 => ⟨S_, .f32⟩
  | 58 => ⟨S1x768x1, .f32⟩
  | 59 => ⟨S1x768x1, .f32⟩
  | 60 => ⟨S1x768x1, .f32⟩
  | 61 => ⟨S512x768x6, .f32⟩
  | 62 => ⟨S512x768x6, .f32⟩
  | 63 => ⟨S512x768x6, .f32⟩
  | 64 => ⟨S512x768x6, .f32⟩
  | 65 => ⟨S_, .f32⟩
  | 66 => ⟨S1x768x1, .f32⟩
  | 67 => ⟨S1x768x1, .f32⟩
  | 68 => ⟨S1x768x1, .f32⟩
  | 69 => ⟨S512x768x6, .f32⟩
  | 70 => ⟨S512x768x6, .f32⟩
  | 71 => ⟨S1x768x1, .f32⟩
  | 72 => ⟨S512x768x6, .f32⟩
  | 73 => ⟨S512x768x6, .f32⟩
  | 74 => ⟨S512x6x768, .f32⟩
  | 75 => ⟨S8x64x6x768, .f32⟩
  | _ => ⟨S8x64x6x256, .f32⟩

abbrev hbmTy (i : Nat) : BufTy := match i / 128 with
  | 0 => hbmTy0_0 i
  | 1 => hbmTy0_1 i
  | _ => ⟨S8x64x6x256, .f32⟩

abbrev bufTy : (tb : Table) → Fin (tcTables nBuf tb) → BufTy
  | .hbm, ⟨i, _⟩ => hbmTy i
  | _, _ => ⟨S8x64x6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_call2_v0 : Ref sig .tc := ⟨.hbm, 112, rfl⟩
abbrev main_call2_cst : Ref sig .tc := ⟨.hbm, 113, rfl⟩
abbrev main_call2_v1 : Ref sig .tc := ⟨.hbm, 114, rfl⟩
abbrev main_call2_v2 : Ref sig .tc := ⟨.hbm, 115, rfl⟩
abbrev main_v82 : Ref sig .tc := ⟨.hbm, 116, rfl⟩
abbrev main_cst_11 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call3_cst : Ref sig .tc := ⟨.hbm, 122, rfl⟩
abbrev main_call3_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_12 : Ref sig .tc := ⟨.hbm, 127, rfl⟩
abbrev main_v90 : Ref sig .tc := ⟨.hbm, 128, rfl⟩
abbrev main_v91 : Ref sig .tc := ⟨.hbm, 129, rfl⟩
abbrev main_cst_13 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_14 : Ref sig .tc := ⟨.hbm, 136, rfl⟩
abbrev main_v97 : Ref sig .tc := ⟨.hbm, 137, rfl⟩
abbrev main_v98 : Ref sig .tc := ⟨.hbm, 138, rfl⟩
abbrev main_cst_15 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_16 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_call4_v0 : Ref sig .tc := ⟨.hbm, 158, rfl⟩
abbrev main_call4_cst : Ref sig .tc := ⟨.hbm, 159, rfl⟩
abbrev main_call4_v1 : Ref sig .tc := ⟨.hbm, 160, rfl⟩
abbrev main_call4_v2 : Ref sig .tc := ⟨.hbm, 161, rfl⟩
abbrev main_v116 : Ref sig .tc := ⟨.hbm, 162, rfl⟩
abbrev main_cst_17 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_call5_cst : Ref sig .tc := ⟨.hbm, 168, rfl⟩
abbrev main_call5_v0 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_18 : Ref sig .tc := ⟨.hbm, 173, rfl⟩
abbrev main_v124 : Ref sig .tc := ⟨.hbm, 174, rfl⟩
abbrev main_v125 : Ref sig .tc := ⟨.hbm, 175, rfl⟩
abbrev main_cst_19 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_20 : Ref sig .tc := ⟨.hbm, 182, rfl⟩
abbrev main_v131 : Ref sig .tc := ⟨.hbm, 183, rfl⟩
abbrev main_v132 : Ref sig .tc := ⟨.hbm, 184, rfl⟩
abbrev main_cst_21 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_22 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩

abbrev nD : Nat := 1
abbrev τ : Topo := Topo.v7x

variable {F : FTy → Type} [FloatOps F]
-- ==== Proof.KerTerms.lean ====
/- The kernel's body as a few functions of its input blocks: eight attentions and forty-eight matched pieces are one function each. -/
module

public import Idealize.ShloMosaic.Lib.Pipeline.Value
public import Idealize.ShloMosaic.Lib.Pipeline.ValueKit
public import proofs.«01_k».proof.Proof.Gen.KernelIdeal.Frame

@[expose] public section

set_option maxRecDepth 16384

noncomputable section

namespace Cert.GraphConv.Ker

open Cert.KernelIdeal Cert.KernelIdeal.Gen Idealize.ShloMosaic Idealize.ShloMosaic.TcCoe Idealize.SL.Sem

/-- The sixty-four rows of one batch and part, of the forty-eight in a block. -/
def rowsK (X : FVec Ideal S1x3072x256 .f32) (k : Fin 48) : FVec Ideal S64x256 .f32 :=
  shapeCast S64x256 (s := S1x64x256) (View.ld (Val := Elt Ideal) (e' := .f32) X (Rect.unit (s := S1x3072x256) ![0, k.val * 64, 0] S1x64x256.size (fun a => by
    match a with
    | ⟨0, _⟩ => show 0 + 1 ≤ 1; omega
    | ⟨1, _⟩ => show k.val * 64 + 64 ≤ 3072; omega
    | ⟨2, _⟩ => show 0 + 256 ≤ 256; omega))) shapeCasts_S1x64x256_S64x256

/-- Six terms added to a start, in order. -/
def acc6 {s : Shape} (z : FVec Ideal s .f32) (d : Fin 6 → FVec Ideal s .f32) : FVec Ideal s .f32 :=
  addf (addf (addf (addf (addf (addf z (d 0)) (d 1)) (d 2)) (d 3)) (d 4)) (d 5)

/-- The rows of batch `b`, part `p`. -/
def partK (X : FVec Ideal S1x3072x256 .f32) (b : Fin 8) (p : Fin 6) : FVec Ideal S64x256 .f32 :=
  rowsK X ⟨b.val * 6 + p.val, by omega⟩

/-- The norms of a batch's nodes, bounded below. -/
def nrmK (X : FVec Ideal S1x3072x256 .f32) (b : Fin 8) : FVec Ideal S64x1 .f32 :=
  maximumf (sqrt (acc6 (broadcast S64x1 (Scalar.ofBits .f32 0x00000000#32)) fun p =>
    shapeCast S64x1 (multiReduction .add [1] S64 (mulf (partK X b p) (partK X b p)) 0x00000000#32 reduces_S64x256_S64 (.inl rfl) rfl) shapeCasts_S64_S64x1))
    (broadcast S64x1 (Scalar.ofBits .f32 0x358637BD#32))

/-- The cosine similarities of a batch's nodes in the two graphs. -/
def simK (X Y : FVec Ideal S1x3072x256 .f32) (b : Fin 8) : FVec Ideal S64x64 .f32 :=
  divf (acc6 (broadcast S64x64 (Scalar.ofBits .f32 0x00000000#32)) fun p =>
      matmul dot_S64x256_S64x256_S64x64_1_1_0_0_n_n none (partK X b p) (partK Y b p) (constant S64x64 .f32 0x00000000#32))
    (mulf (broadcastTo S64x64 (nrmK X b) broadcasts_S64x1_S64x64)
      (broadcastTo S64x64 (transpose S1x64 [1, 0] (nrmK Y b) transposes_S64x1_p1_0_S1x64) broadcasts_S1x64_S64x64))

/-- A softmax's numerators, row by row. -/
def expK (s : FVec Ideal S64x64 .f32) : FVec Ideal S64x64 .f32 :=
  exp (subf s (broadcastTo S64x64 (shapeCast S64x1 (multiReduction .maximumf [1] S64 s 0xFF800000#32 reduces_S64x64_S64 (.inl rfl) rfl) shapeCasts_S64_S64x1) broadcasts_S64x1_S64x64))

/-- A softmax, row by row. -/
def softK (s : FVec Ideal S64x64 .f32) : FVec Ideal S64x64 .f32 :=
  divf (expK s) (broadcastTo S64x64 (shapeCast S64x1 (multiReduction .add [1] S64 (expK s) 0x00000000#32 reduces_S64x64_S64 (.inl rfl) rfl) shapeCasts_S64_S64x1) broadcasts_S64x1_S64x64)

/-- The attention of a batch. -/
def attK (X Y : FVec Ideal S1x3072x256 .f32) (b : Fin 8) : FVec Ideal S64x64 .f32 := softK (simK X Y b)

/-- A linear map of a whole block, without offset. -/
def mapK (X : FVec Ideal S1x3072x256 .f32) (w : FVec Ideal S256x256 .f32) : FVec Ideal S3072x256 .f32 :=
  matmul dot_S3072x256_S256x256_S3072x256_1_0_0_1_n_n none (shapeCast S3072x256 X shapeCasts_S1x3072x256_S3072x256)
    (shapeCast S256x256 w shapeCasts_S256x256_S256x256) (constant S3072x256 .f32 0x00000000#32)

/-- An offset row under every row of a block. -/
def offK (c : FVec Ideal S1x256 .f32) : FVec Ideal S3072x256 .f32 :=
  broadcastTo S3072x256 (shapeCast S1x256 c shapeCasts_S1x256_S1x256) broadcasts_S1x256_S3072x256

/-- The nodes' own third. -/
def ownK (X : FVec Ideal S1x3072x256 .f32) (w : FVec Ideal S256x256 .f32) (c : FVec Ideal S1x256 .f32) : FVec Ideal S3072x256 .f32 :=
  addf (mapK X w) (offK c)

/-- The neighbours' third. -/
def aroundK (X : FVec Ideal S1x3072x256 .f32) (w : FVec Ideal S256x256 .f32) (c : FVec Ideal S1x256 .f32) : FVec Ideal S3072x256 .f32 :=
  addf (shapeCast S3072x256 (mulf (subf (broadcastTo S48x64x256 (shapeCast S48x1x256
      (multiReduction .add [1] S48x256 (shapeCast S48x64x256 (mapK X w) shapeCasts_S3072x256_S48x64x256) 0x00000000#32 reduces_S48x64x256_S48x256 (.inl rfl) rfl)
      shapeCasts_S48x256_S48x1x256) broadcasts_S48x1x256_S48x64x256) (shapeCast S48x64x256 (mapK X w) shapeCasts_S3072x256_S48x64x256))
    (broadcast S48x64x256 (Named.named κ "inv_n" 0x3C820821#32 : Ideal .f32))) shapeCasts_S48x64x256_S3072x256) (offK c)

/-- One batch and part of the matching third: the rows' map less the attended map of the other graph. -/
def pieceK (a : FVec Ideal S64x64 .f32) (zs zo : FVec Ideal S3072x256 .f32) (c : FVec Ideal S1x256 .f32) (k : Fin 48) : FVec Ideal S64x256 .f32 :=
  have hs : S3072x256.Slices ![k.val * 64, 0] S64x256 := ⟨rfl, fun a => by
    match a with
    | ⟨0, _⟩ => show k.val * 64 + 64 ≤ 3072; omega
    | ⟨1, _⟩ => show 0 + 256 ≤ 256; omega⟩
  addf (subf (extractStridedSlice S64x256 ![k.val * 64, 0] zs hs)
    (matmul dot_S64x64_S64x256_S64x256_1_0_0_1_n_n none a (extractStridedSlice S64x256 ![k.val * 64, 0] zo hs) (constant S64x256 .f32 0x00000000#32)))
    (broadcastTo S64x256 (shapeCast S1x256 c shapeCasts_S1x256_S1x256) broadcasts_S1x256_S64x256)

/-- Forty-eight pieces stack to a block. -/
theorem stack_fits (f : Fin 48 → FVec Ideal S64x256 .f32) :
    Shape.Concatenates ((List.ofFn fun n : Fin 48 => (⟨S64x256, f n⟩ : (s : Shape) × (s.Idx → Ideal .f32))).map (·.1)) S3072x256 0 := by
  rw [List.map_ofFn]
  exact (by decide +kernel : Shape.Concatenates (List.ofFn fun _ : Fin 48 => S64x256) S3072x256 0)

/-- The matching third. -/
def crossK (X Y : FVec Ideal S1x3072x256 .f32) (w : FVec Ideal S256x256 .f32) (c : FVec Ideal S1x256 .f32) : FVec Ideal S3072x256 .f32 :=
  concatenate S3072x256 0 (List.ofFn fun n : Fin 48 => (⟨S64x256, pieceK (attK X Y ⟨n.val / 6, by omega⟩) (mapK X w) (mapK Y w) c n⟩ : (s : Shape) × (s.Idx → Ideal .f32)))
    (stack_fits _)

/-- The rows' squared lengths in one third. -/
def sqK (x : FVec Ideal S3072x256 .f32) : FVec Ideal S3072x1 .f32 :=
  shapeCast S3072x1 (multiReduction .add [1] S3072 (mulf x x) 0x00000000#32 reduces_S3072x256_S3072 (.inl rfl) rfl) shapeCasts_S3072_S3072x1

/-- The rows' reciprocal lengths. -/
def invK (s x u : FVec Ideal S3072x256 .f32) : FVec Ideal S3072x1 .f32 :=
  divf (broadcast S3072x1 (Scalar.ofBits .f32 0x3F800000#32))
    (maximumf (sqrt (addf (addf (sqK s) (sqK x)) (sqK u))) (broadcast S3072x1 (Scalar.ofBits .f32 0x2B8CBCCC#32)))

/-- The normalised rows without their negative part. -/
def actK (s x u : FVec Ideal S3072x256 .f32) : FVec Ideal S3072x768 .f32 :=
  maximumf (mulf (concatenate S3072x768 1 [⟨S3072x256, s⟩, ⟨S3072x256, x⟩, ⟨S3072x256, u⟩] concatenates_S3072x256_S3072x256_S3072x256_S3072x768_d1)
    (broadcastTo S3072x768 (invK s x u) broadcasts_S3072x1_S3072x768)) (broadcast S3072x768 (Scalar.ofBits .f32 0x00000000#32))

/-- The block's activations from the input blocks. -/
def hidK (X Y : FVec Ideal S1x3072x256 .f32) (wx wn wr : FVec Ideal S256x256 .f32) (bx bn br : FVec Ideal S1x256 .f32) : FVec Ideal S3072x768 .f32 :=
  actK (ownK X wx bx) (aroundK X wn bn) (crossK X Y wr br)

/-- The channels' sums over the block. -/
def sumK (h : FVec Ideal S3072x768 .f32) : FVec Ideal S1x768 .f32 :=
  shapeCast S1x768 (shapeCast S1x768 (multiReduction .add [0] S768 h 0x00000000#32 reduces_S3072x768_S768 (.inl rfl) rfl) shapeCasts_S768_S1x768) shapeCasts_S1x768_S1x768

/-- The channels' means. -/
def meanK (s : FVec Ideal S1x768 .f32) : FVec Ideal S1x768 .f32 :=
  mulf s (broadcast S1x768 (Named.named κ "inv_m" 0x39AAAAAB#32 : Ideal .f32))

/-- The channels' scale. -/
def scaleK (s q g : FVec Ideal S1x768 .f32) : FVec Ideal S1x768 .f32 :=
  mulf (shapeCast S1x768 g shapeCasts_S1x768_S1x768)
    (rsqrt (addf (maximumf (subf (mulf q (broadcast S1x768 (Named.named κ "inv_m" 0x39AAAAAB#32 : Ideal .f32))) (mulf (meanK s) (meanK s)))
      (broadcast S1x768 (Scalar.ofBits .f32 0x00000000#32))) (broadcast S1x768 (Scalar.ofBits .f32 0x3727C5AC#32))))

/-- A batch's rows of a block. -/
def batchK (h : FVec Ideal S3072x768 .f32) (k : Fin 8) : FVec Ideal S384x768 .f32 :=
  View.ld (Val := Elt Ideal) (e' := .f32) h (Rect.unit (s := S3072x768) ![k.val * 384, 0] S384x768.size (fun a => by
    match a with
    | ⟨0, _⟩ => show k.val * 384 + 384 ≤ 3072; omega
    | ⟨1, _⟩ => show 0 + 768 ≤ 768; omega))

/-- A batch's rows of the activations `h`, scaled and shifted by the statistics `s` and `q` of the channels. -/
def blockK (h : FVec Ideal S3072x768 .f32) (s q g e : FVec Ideal S1x768 .f32) (k : Fin 8) : FVec Ideal S1x384x768 .f32 :=
  shapeCast S1x384x768 (addf (mulf (batchK h k) (broadcastTo S384x768 (scaleK s q g) broadcasts_S1x768_S384x768))
    (broadcastTo S384x768 (subf (shapeCast S1x768 e shapeCasts_S1x768_S1x768) (mulf (meanK s) (scaleK s q g))) broadcasts_S1x768_S384x768))
    shapeCasts_S384x768_S1x384x768

end Cert.GraphConv.Ker

end
-- ==== Proof.KerPoint.lean ====
/- What each grid point of the kernel leaves: the first of nine fills the scratch, the others read it and write one batch. -/
module

public import Idealize.ShloMosaic.Lib.Pipeline.Value
public import Idealize.ShloMosaic.Lib.Pipeline.ValueKit
public import Idealize.ShloMosaic.Lib.Pipeline.ReadBack
public import proofs.«01_k».proof.Proof.KerTerms

@[expose] public section

set_option maxRecDepth 16384

noncomputable section

namespace Cert.GraphConv.Ker

open Cert.KernelIdeal Cert.KernelIdeal.Gen Idealize.ShloMosaic Idealize.ShloMosaic.TcCoe Idealize.SL.Sem
variable (m : (ℓ : Loc nD τ sig) → Buf (Elt Ideal) ℓ)

/-- What the first point of a run leaves in the activations' scratch. -/
theorem first_hid (c : Dev nD) (t : Fin cfg0.N) (h0 : t.val % 9 = 0) (h1 : ¬1 ≤ t.val % 9) :
    (outsAt0 m c t.val t.isLt).2.1 = shapeCast S3072x768 (hidK (iblk m c 0 t) (iblk m c 1 t) (iblk m c 2 t) (iblk m c 3 t) (iblk m c 4 t)
      (iblk m c 5 t) (iblk m c 6 t) (iblk m c 7 t)) shapeCasts_S3072x768_S3072x768 := by
  rw [outsAt0_A m c t h0 h1]
  frame_out
  sl_kernel_rfl

/-- What the first point of a run leaves in the scratch of the channels' sums. -/
theorem first_sum (c : Dev nD) (t : Fin cfg0.N) (h0 : t.val % 9 = 0) (h1 : ¬1 ≤ t.val % 9) :
    (outsAt0 m c t.val t.isLt).2.2.1 = sumK (hidK (iblk m c 0 t) (iblk m c 1 t) (iblk m c 2 t) (iblk m c 3 t) (iblk m c 4 t)
      (iblk m c 5 t) (iblk m c 6 t) (iblk m c 7 t)) := by
  rw [outsAt0_A m c t h0 h1]
  frame_out
  sl_kernel_rfl

/-- What the first point of a run leaves in the scratch of the channels' sums of squares. -/
theorem first_sq (c : Dev nD) (t : Fin cfg0.N) (h0 : t.val % 9 = 0) (h1 : ¬1 ≤ t.val % 9) :
    (outsAt0 m c t.val t.isLt).2.2.2 = sumK (mulf (hidK (iblk m c 0 t) (iblk m c 1 t) (iblk m c 2 t) (iblk m c 3 t) (iblk m c 4 t)
      (iblk m c 5 t) (iblk m c 6 t) (iblk m c 7 t))
      (hidK (iblk m c 0 t) (iblk m c 1 t) (iblk m c 2 t) (iblk m c 3 t) (iblk m c 4 t)
      (iblk m c 5 t) (iblk m c 6 t) (iblk m c 7 t))) := by
  rw [outsAt0_A m c t h0 h1]
  frame_out
  sl_kernel_rfl

/-- The later points of a run leave the three scratches as they found them. -/
theorem later_scratch (c : Dev nD) (t : Fin cfg0.N) (h0 : ¬t.val % 9 = 0) :
    (outsAt0 m c t.val t.isLt).2 = (outsAt0 m c (t.val - 1) (Nat.lt_of_le_of_lt (Nat.sub_le _ _) t.isLt)).2 := by
  rw [outsAt0_B m c t h0 (by omega)]
  rfl

/-- The rows a later point reads start at its batch. -/
theorem off_eq : ∀ t : Fin cfg0.N, ¬t.val % 9 = 0 → k0_off1 (grid0.coords t) = ![(t.val % 9 - 1) * 384, 0] := by
  decide +kernel

/-- A load's value depends on its offsets only through their values. -/
theorem ld_off (h : FVec Ideal S3072x768 .f32) {o o' : Fin 2 → Nat} (e : o = o') (i i') :
    View.ld (Val := Elt Ideal) (e' := .f32) h (Rect.unit (s := S3072x768) o S384x768.size i)
      = View.ld (Val := Elt Ideal) (e' := .f32) h (Rect.unit (s := S3072x768) o' S384x768.size i') := by
  subst e; rfl

/-- A later point writes its batch's rows of the scratch, scaled and shifted. -/
theorem later_block (c : Dev nD) (t : Fin cfg0.N) (h0 : ¬t.val % 9 = 0) (k : Fin 8) (hk : t.val % 9 = k.val + 1) :
    (outsAt0 m c t.val t.isLt).1 = blockK (outsAt0 m c t.val t.isLt).2.1 (outsAt0 m c t.val t.isLt).2.2.1
      (outsAt0 m c t.val t.isLt).2.2.2 (iblk m c 8 t) (iblk m c 9 t) k := by
  rw [later_scratch m c t h0, outsAt0_B m c t h0 (by omega)]
  frame_out
  simp only [read_unread_whole]
  rw [ld_off _ ((off_eq t h0).trans (by rw [show t.val % 9 - 1 = k.val by omega])) _ (by
    intro a
    match a with
    | ⟨0, _⟩ => show k.val * 384 + 384 ≤ 3072; omega
    | ⟨1, _⟩ => show 0 + 768 ≤ 768; omega)]
  rfl

end Cert.GraphConv.Ker

end
-- ==== Proof.Spec.lean ====
/- The layer's mathematics over the real numbers: what both programs are shown to compute, and the identities
   between the order of operations the definition uses and the order the kernel uses. -/
module

public import Idealize.ShloMosaic.PureOps.Ideal
public import Idealize.ShloMosaic.PureOps.Ideal.Laws
public import Mathlib.Algebra.BigOperators.Field
public import Mathlib.Algebra.Order.BigOperators.Ring.Finset

@[expose] public section

noncomputable section

namespace Cert.GraphConv

open Idealize.ShloMosaic
open scoped BigOperators

/-! ## The three small constants -/

/-- The lower bound of a node's norm in the cosine similarity (the binary32 number nearest 1e-6). -/
def e6 : ℝ := (Ideal.ofBits .f32 0x358637BD#32).toReal
/-- The lower bound of a feature row's norm (the binary32 number nearest 1e-12). -/
def e12 : ℝ := (Ideal.ofBits .f32 0x2B8CBCCC#32).toReal
/-- What is added to the variance (the binary32 number nearest 1e-5). -/
def e5 : ℝ := (Ideal.ofBits .f32 0x3727C5AC#32).toReal

/-- A positive normal binary32 pattern denotes its `toReal`, which is positive. -/
theorem ofBits_pos (b : BitVec 32) (hs : b.extractLsb' 31 1 = 0#1) (h0 : (b.extractLsb' 23 8).toNat ≠ 0)
    (h1 : (b.extractLsb' 23 8).toNat ≠ 255) :
    Ideal.ofBits .f32 b = (((Ideal.ofBits .f32 b).toReal : ℝ) : EReal) ∧ 0 < (Ideal.ofBits .f32 b).toReal := by
  have h : Ideal.ofBits .f32 b = (((2 ^ 23 + (b.extractLsb' 0 23).toNat : Nat) *
      (2 : ℝ) ^ (((b.extractLsb' 23 8).toNat : Int) - (2 ^ 7 - 1) - 23) : ℝ) : EReal) := by
    have hn : (b.extractLsb' (8 + 23) 1 == 1#1) = false := by
      rw [show 8 + 23 = 31 from rfl, hs]; rfl
    show Ideal.ieee 8 23 b = _
    unfold Ideal.ieee
    simp only [hn]
    rw [if_neg (by simpa using h1), if_neg h0]
    norm_num
  rw [h]
  refine ⟨by rw [EReal.toReal_coe], ?_⟩
  rw [EReal.toReal_coe]
  positivity

theorem ofBits_e6 : Ideal.ofBits .f32 0x358637BD#32 = ((e6 : ℝ) : EReal) :=
  (ofBits_pos _ (by decide) (by decide) (by decide)).1
theorem e6_pos : 0 < e6 := (ofBits_pos _ (by decide) (by decide) (by decide)).2
theorem ofBits_e12 : Ideal.ofBits .f32 0x2B8CBCCC#32 = ((e12 : ℝ) : EReal) :=
  (ofBits_pos _ (by decide) (by decide) (by decide)).1
theorem e12_pos : 0 < e12 := (ofBits_pos _ (by decide) (by decide) (by decide)).2
theorem ofBits_e5 : Ideal.ofBits .f32 0x3727C5AC#32 = ((e5 : ℝ) : EReal) :=
  (ofBits_pos _ (by decide) (by decide) (by decide)).1
theorem e5_pos : 0 < e5 := (ofBits_pos _ (by decide) (by decide) (by decide)).2

/-! ## The layer -/

/-- One graph batch's node features: batch, node, part, feature. -/
abbrev Feat := Fin 8 → Fin 64 → Fin 6 → Fin 256 → ℝ

/-- The layer's parameters: three linear maps (output, input) with their offsets, and the batch norm's two rows. -/
structure Params where
  wx : Fin 256 → Fin 256 → ℝ
  wn : Fin 256 → Fin 256 → ℝ
  wr : Fin 256 → Fin 256 → ℝ
  bx : Fin 256 → ℝ
  bn : Fin 256 → ℝ
  br : Fin 256 → ℝ
  ga : Fin 768 → ℝ
  be : Fin 768 → ℝ

/-- The squared length of a node's features, all parts together. -/
def sq (x : Feat) (b : Fin 8) (n : Fin 64) : ℝ := ∑ p : Fin 6, ∑ d : Fin 256, x b n p d * x b n p d
/-- A node's norm, bounded below. -/
def nrm (x : Feat) (b : Fin 8) (n : Fin 64) : ℝ := max (Real.sqrt (sq x b n)) e6
/-- The inner product of a node of one graph with a node of the other. -/
def dot (x y : Feat) (b : Fin 8) (n k : Fin 64) : ℝ := ∑ p : Fin 6, ∑ d : Fin 256, x b n p d * y b k p d
/-- Their cosine similarity. -/
def sim (x y : Feat) (b : Fin 8) (n k : Fin 64) : ℝ := dot x y b n k / (nrm x b n * nrm y b k)
/-- The attention of node `n` to node `k` of the other graph. -/
def att (x y : Feat) (b : Fin 8) (n k : Fin 64) : ℝ :=
  Real.exp (sim x y b n k) / ∑ l : Fin 64, Real.exp (sim x y b n l)
/-- The mean of a node's neighbours: all the nodes but itself. -/
def nbr (x : Feat) (b : Fin 8) (n : Fin 64) (p : Fin 6) (d : Fin 256) : ℝ :=
  (∑ k : Fin 64, x b k p d - x b n p d) / 63
/-- A node less what its attention reads from the other graph. -/
def diff (x y : Feat) (b : Fin 8) (n : Fin 64) (p : Fin 6) (d : Fin 256) : ℝ :=
  x b n p d - ∑ k : Fin 64, att x y b n k * y b k p d
/-- A linear map with its offset, one output. -/
def lin (w : Fin 256 → Fin 256 → ℝ) (c : Fin 256 → ℝ) (v : Fin 256 → ℝ) (o : Fin 256) : ℝ :=
  ∑ d : Fin 256, v d * w o d + c o

/-- The node's own third of a feature row. -/
def own (P : Params) (x : Feat) (b : Fin 8) (n : Fin 64) (p : Fin 6) (o : Fin 256) : ℝ := lin P.wx P.bx (x b n p) o
/-- The neighbours' third. -/
def around (P : Params) (x : Feat) (b : Fin 8) (n : Fin 64) (p : Fin 6) (o : Fin 256) : ℝ := lin P.wn P.bn (nbr x b n p) o
/-- The matching third. -/
def cross (P : Params) (x y : Feat) (b : Fin 8) (n : Fin 64) (p : Fin 6) (o : Fin 256) : ℝ :=
  lin P.wr P.br (diff x y b n p) o

/-- The three thirds side by side. -/
def cat (P : Params) (x y : Feat) (b : Fin 8) (n : Fin 64) (p : Fin 6) (c : Fin 768) : ℝ :=
  if h : c.val < 256 then own P x b n p ⟨c.val, h⟩
  else if h' : c.val - 256 < 256 then around P x b n p ⟨c.val - 256, h'⟩
  else cross P x y b n p ⟨c.val - 256 - 256, by omega⟩

/-- The squared length of a feature row. -/
def rsq (P : Params) (x y : Feat) (b : Fin 8) (n : Fin 64) (p : Fin 6) : ℝ :=
  ∑ o, own P x b n p o * own P x b n p o + ∑ o, around P x b n p o * around P x b n p o
    + ∑ o, cross P x y b n p o * cross P x y b n p o
/-- The row's norm, bounded below. -/
def rnrm (P : Params) (x y : Feat) (b : Fin 8) (n : Fin 64) (p : Fin 6) : ℝ := max (Real.sqrt (rsq P x y b n p)) e12
/-- The normalised row, its negative entries replaced by zero. -/
def act (P : Params) (x y : Feat) (b : Fin 8) (n : Fin 64) (p : Fin 6) (c : Fin 768) : ℝ :=
  max (cat P x y b n p c / rnrm P x y b n p) 0
/-- A channel's mean over all rows. -/
def mean (P : Params) (x y : Feat) (c : Fin 768) : ℝ :=
  (∑ b : Fin 8, ∑ n : Fin 64, ∑ p : Fin 6, act P x y b n p c) / 3072
/-- A channel's variance over all rows. -/
def var (P : Params) (x y : Feat) (c : Fin 768) : ℝ :=
  (∑ b : Fin 8, ∑ n : Fin 64, ∑ p : Fin 6, (act P x y b n p c - mean P x y c) * (act P x y b n p c - mean P x y c)) / 3072
/-- The layer's result at one place. -/
def out (P : Params) (x y : Feat) (b : Fin 8) (n : Fin 64) (p : Fin 6) (c : Fin 768) : ℝ :=
  P.ga c * (act P x y b n p c - mean P x y c) / Real.sqrt (var P x y c + e5) + P.be c

/-! ## Signs -/

theorem sq_nonneg (x : Feat) (b : Fin 8) (n : Fin 64) : 0 ≤ sq x b n :=
  Finset.sum_nonneg fun _ _ => Finset.sum_nonneg fun _ _ => mul_self_nonneg _
theorem nrm_pos (x : Feat) (b : Fin 8) (n : Fin 64) : 0 < nrm x b n := lt_max_of_lt_right e6_pos
theorem rsq_nonneg (P : Params) (x y : Feat) (b : Fin 8) (n : Fin 64) (p : Fin 6) : 0 ≤ rsq P x y b n p :=
  add_nonneg (add_nonneg (Finset.sum_nonneg fun _ _ => mul_self_nonneg _) (Finset.sum_nonneg fun _ _ => mul_self_nonneg _))
    (Finset.sum_nonneg fun _ _ => mul_self_nonneg _)
theorem rnrm_pos (P : Params) (x y : Feat) (b : Fin 8) (n : Fin 64) (p : Fin 6) : 0 < rnrm P x y b n p :=
  lt_max_of_lt_right e12_pos
theorem var_nonneg (P : Params) (x y : Feat) (c : Fin 768) : 0 ≤ var P x y c :=
  div_nonneg (Finset.sum_nonneg fun _ _ => Finset.sum_nonneg fun _ _ => Finset.sum_nonneg fun _ _ => mul_self_nonneg _)
    (by norm_num)

/-! ## The kernel's order of operations -/

/-- Similarity the other way round is the transpose. -/
theorem sim_swap (x y : Feat) (b : Fin 8) (n k : Fin 64) : sim x y b n k = sim y x b k n := by
  unfold sim dot
  rw [mul_comm (nrm x b n)]
  congr 1
  exact Finset.sum_congr rfl fun p _ => Finset.sum_congr rfl fun d _ => mul_comm _ _

/-- The matching third with the linear map applied before the attention. -/
theorem cross_eq (P : Params) (x y : Feat) (b : Fin 8) (n : Fin 64) (p : Fin 6) (o : Fin 256) :
    (∑ d, x b n p d * P.wr o d - ∑ k, att x y b n k * ∑ d, y b k p d * P.wr o d) + P.br o = cross P x y b n p o := by
  unfold cross lin diff
  congr 1
  simp only [Finset.mul_sum, sub_mul, Finset.sum_mul, Finset.sum_sub_distrib]
  rw [Finset.sum_comm]
  congr 1
  exact Finset.sum_congr rfl fun d _ => Finset.sum_congr rfl fun k _ => (mul_assoc _ _ _).symm

/-- The neighbours' third with the linear map applied before the mean. -/
theorem around_eq (P : Params) (x : Feat) (b : Fin 8) (n : Fin 64) (p : Fin 6) (o : Fin 256) :
    (∑ k : Fin 64, ∑ d, x b k p d * P.wn o d - ∑ d, x b n p d * P.wn o d) * (1 / 63) + P.bn o = around P x b n p o := by
  unfold around lin nbr
  congr 1
  rw [Finset.sum_comm, ← Finset.sum_sub_distrib, Finset.sum_mul]
  refine Finset.sum_congr rfl fun d _ => ?_
  rw [← Finset.sum_mul]
  ring

/-- A row's squared length as one sum over its 768 entries. -/
theorem rsq_eq (P : Params) (x y : Feat) (b : Fin 8) (n : Fin 64) (p : Fin 6) :
    ∑ c, cat P x y b n p c * cat P x y b n p c = rsq P x y b n p := by
  have h := Fin.sum_univ_add (a := 256 + 256) (b := 256) fun c => cat P x y b n p c * cat P x y b n p c
  rw [Fin.sum_univ_add (a := 256) (b := 256) fun i => cat P x y b n p (Fin.castAdd 256 i) * cat P x y b n p (Fin.castAdd 256 i)] at h
  refine h.trans ?_
  unfold rsq
  refine congrArg₂ _ (congrArg₂ _ ?_ ?_) ?_ <;> refine Finset.sum_congr rfl fun o _ => ?_
  · have e : cat P x y b n p (Fin.castAdd 256 (Fin.castAdd 256 o)) = own P x b n p o := by
      unfold cat; simp
    rw [e]
  · have e : cat P x y b n p (Fin.castAdd 256 (Fin.natAdd 256 o)) = around P x b n p o := by
      unfold cat; simp
    rw [e]
  · have e : cat P x y b n p (Fin.natAdd (256 + 256) o) = cross P x y b n p o := by
      unfold cat
      have h1 : ¬ (256 + 256 + o.val < 256) := by omega
      have h2 : ¬ (256 + 256 + o.val - 256 < 256) := by omega
      simp only [Fin.val_natAdd, h1, h2, dite_false]
      congr 1
      exact Fin.ext (by simp only []; omega)
    rw [e]

/-- The mean of the squares less the square of the mean is the mean squared distance from the mean. -/
theorem var_eq (P : Params) (x y : Feat) (c : Fin 768) :
    max ((∑ b : Fin 8, ∑ n : Fin 64, ∑ p : Fin 6, act P x y b n p c * act P x y b n p c) * (1 / 3072)
      - mean P x y c * mean P x y c) 0 = var P x y c := by
  have h : (∑ b : Fin 8, ∑ n : Fin 64, ∑ p : Fin 6, act P x y b n p c * act P x y b n p c) * (1 / 3072)
      - mean P x y c * mean P x y c = var P x y c := by
    have hm : ∑ b : Fin 8, ∑ n : Fin 64, ∑ p : Fin 6, act P x y b n p c = 3072 * mean P x y c := by
      unfold mean; ring
    have e : ∀ b n p, (act P x y b n p c - mean P x y c) * (act P x y b n p c - mean P x y c)
        = act P x y b n p c * act P x y b n p c - 2 * mean P x y c * act P x y b n p c + mean P x y c * mean P x y c :=
      fun b n p => by ring
    unfold var
    simp only [e, Finset.sum_add_distrib, Finset.sum_sub_distrib, ← Finset.mul_sum, hm, Finset.sum_const,
      Finset.card_univ, Fintype.card_fin, nsmul_eq_mul]
    push_cast
    ring
  rw [h]
  exact max_eq_left (var_nonneg P x y c)

/-- Scale and shift against the normalised form. -/
theorem out_eq (P : Params) (x y : Feat) (b : Fin 8) (n : Fin 64) (p : Fin 6) (c : Fin 768) :
    act P x y b n p c * (P.ga c * (Real.sqrt (var P x y c + e5))⁻¹)
      + (P.be c - mean P x y c * (P.ga c * (Real.sqrt (var P x y c + e5))⁻¹)) = out P x y b n p c := by
  unfold out
  rw [div_eq_mul_inv]
  ring

end Cert.GraphConv

end
-- ==== Proof.Reals.lean ====
/- The extended-real operations at real arguments: each is the real operation. -/
module

public import Idealize.ShloMosaic.Lib.IdealHost
public import Idealize.ShloMosaic.Lib.Pointwise
public import proofs.«01_k».proof.Proof.Spec

@[expose] public section

noncomputable section

namespace Cert.GraphConv

open Idealize.ShloMosaic
open scoped BigOperators

/-- A sum of reals, taken in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The quotient of two reals, the divisor positive. -/
theorem div_coe_pos {x y : ℝ} (h : 0 < y) : Ideal.div (x : EReal) (y : EReal) = ((x / y : ℝ) : EReal) := by
  rw [Ideal.div_coe h.ne', ← EReal.coe_mul, mul_one_div]

/-- The square root of a nonnegative real. -/
theorem sqrt_coe_nonneg {r : ℝ} (h : 0 ≤ r) : Ideal.sqrt (r : EReal) = ((Real.sqrt r : ℝ) : EReal) := by
  rw [Ideal.sqrt_coe, if_neg (not_lt.mpr h)]

/-- The reciprocal square root of a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- The larger of two reals. -/
theorem max_coe (a b : ℝ) : max (a : EReal) (b : EReal) = ((max a b : ℝ) : EReal) :=
  (EReal.coe_strictMono.monotone.map_max).symm

/-- The pattern that starts a maximum denotes the bottom. -/
theorem ofBits_negInf : Ideal.ofBits .f32 0xFF800000#32 = ⊥ := by
  simp [Ideal.ofBits, Ideal.ieee]

/-- 63, 3072: the counts the definition divides by. -/
theorem ofBits_63 : Ideal.ofBits .f32 0x427C0000#32 = ((63 : ℝ) : EReal) := by
  simp [Ideal.ofBits, Ideal.ieee, show (0x427C0000#32 : BitVec 32).extractLsb' 31 1 = 0#1 from rfl]
  rw [← EReal.coe_mul]
  norm_num
theorem ofBits_3072 : Ideal.ofBits .f32 0x45400000#32 = ((3072 : ℝ) : EReal) := by
  simp [Ideal.ofBits, Ideal.ieee, show (0x45400000#32 : BitVec 32).extractLsb' 31 1 = 0#1 from rfl]
  rw [← EReal.coe_mul]
  norm_num

/-- The maximum of finitely many reals, at least one, is a real. -/
theorem fold_max_coe {n : ℕ} (f : Fin (n + 1) → ℝ) :
    ∃ r : ℝ, (Finset.univ : Finset (Fin (n + 1))).fold max (⊥ : EReal) (fun k => ((f k : ℝ) : EReal)) = (r : EReal) := by
  classical
  have key : ∀ s : Finset (Fin (n + 1)), s.fold max (⊥ : EReal) (fun k => ((f k : ℝ) : EReal)) = ⊥ ∧ s = ∅
      ∨ ∃ r : ℝ, s.fold max (⊥ : EReal) (fun k => ((f k : ℝ) : EReal)) = (r : EReal) := by
    intro s
    induction s using Finset.induction_on with
    | empty => exact .inl ⟨by simp, rfl⟩
    | insert a s h ih =>
      refine .inr ?_
      rw [Finset.fold_insert h]
      rcases ih with ⟨e, -⟩ | ⟨r, e⟩
      · exact ⟨f a, by rw [e]; simp⟩
      · exact ⟨max (f a) r, by rw [e, max_coe]⟩
  rcases key Finset.univ with ⟨-, e⟩ | h
  · exact absurd e Finset.univ_nonempty.ne_empty
  · exact h

/-- A softmax's entry does not depend on the number subtracted before the exponential. -/
theorem softmax_coe {n : ℕ} (s : Fin (n + 1) → ℝ) (r : ℝ) (k : Fin (n + 1)) :
    Ideal.div (Ideal.exp ((s k : ℝ) - (r : ℝ) : EReal)) (∑ l, Ideal.exp ((s l : ℝ) - (r : ℝ) : EReal))
      = ((Real.exp (s k) / ∑ l, Real.exp (s l) : ℝ) : EReal) := by
  have hp : (0 : ℝ) < ∑ l, Real.exp (s l - r) := Finset.sum_pos (fun _ _ => Real.exp_pos _) Finset.univ_nonempty
  simp only [← EReal.coe_sub, Ideal.exp_coe, coe_sum]
  rw [div_coe_pos hp]
  simp only [Real.exp_sub, ← Finset.sum_div]
  rw [div_div_div_cancel_right₀ (Real.exp_pos r).ne']

/-- A sum over `m * n` places as a sum over `m` groups of `n`. -/
theorem sum_split {M : Type*} [AddCommMonoid M] (m n : ℕ) {N : ℕ} (h : m * n = N) (f : Fin N → M) :
    ∑ k, f k = ∑ i : Fin m, ∑ j : Fin n,
      f ⟨i.val * n + j.val, h ▸ (Nat.lt_of_lt_of_le (Nat.add_lt_add_left j.isLt _)
        ((Nat.succ_mul i.val n) ▸ Nat.mul_le_mul_right n i.isLt))⟩ := by
  subst h
  rw [← Fintype.sum_prod_type']
  exact (Fintype.sum_equiv finProdFinEquiv _ _ fun x => congrArg f (Fin.ext (by
    simp [finProdFinEquiv, Nat.mul_comm n, Nat.add_comm]))).symm

end Cert.GraphConv

end
-- ==== Proof.KerValue.lean ====
/- The kernel's terms at real arrays: each entry is the definition's real number. -/
module

public import Idealize.ShloMosaic.Lib.Pointwise
public import proofs.«01_k».proof.Proof.Spec
public import proofs.«01_k».proof.Proof.Reals
public import proofs.«01_k».proof.Proof.KerTerms

@[expose] public section

set_option maxRecDepth 16384

noncomputable section

namespace Cert.GraphConv.Ker

open Cert.KernelIdeal Cert.KernelIdeal.Gen Idealize.ShloMosaic Idealize.ShloMosaic.TcCoe

/-- The row of batch `b`, node `n`, part `p` in a graph's block. -/
def row (b : Fin 8) (n : Fin 64) (p : Fin 6) : Fin 3072 := ⟨b.val * 384 + p.val * 64 + n.val, by omega⟩

/-- The number a position denotes decides the row. -/
theorem row_eq {r : Nat} (h : r < 3072) (b : Fin 8) (n : Fin 64) (p : Fin 6) (e : r = b.val * 384 + p.val * 64 + n.val) :
    (⟨r, h⟩ : Fin 3072) = row b n p := Fin.ext e

/-- A graph's block that holds the features. -/
def Holds (X : FVec Ideal S1x3072x256 .f32) (x : Feat) : Prop :=
  ∀ b n p d, X (ix3 (0 : Fin 1) (row b n p) d) = ((x b n p d : ℝ) : EReal)

/-- A third of the rows that holds the numbers. -/
def Third (A : FVec Ideal S3072x256 .f32) (f : Feat) : Prop := ∀ b n p o, A (ix2 (row b n p) o) = ((f b n p o : ℝ) : EReal)

theorem partK_apply {X : FVec Ideal S1x3072x256 .f32} {x : Feat} (hX : Holds X x) (b : Fin 8) (p : Fin 6) (n : Fin 64) (d : Fin 256) :
    partK X b p (ix2 n d) = ((x b n p d : ℝ) : EReal) := by
  pointwise [partK, rowsK]
  rw [← hX]
  refine congrArg X (congrArg (fun r => ix3 (0 : Fin 1) r d) (row_eq _ b n p ?_))
  omega

theorem nrmK_apply {X : FVec Ideal S1x3072x256 .f32} {x : Feat} (hX : Holds X x) (b : Fin 8) (n : Fin 64) :
    nrmK X b (ix2 n (0 : Fin 1)) = ((nrm x b n : ℝ) : EReal) := by
  pointwise [nrmK, acc6]
  simp only [partK_apply hX, ← EReal.coe_mul, coe_sum, ofBits_e6]
  rw [← Fin.sum_univ_six fun p => ((∑ d, x b n p d * x b n p d : ℝ) : EReal), coe_sum]
  rw [show ∑ p, ∑ d, x b n p d * x b n p d = sq x b n from rfl, sqrt_coe_nonneg (sq_nonneg x b n), max_coe]
  rfl

theorem simK_apply {X Y : FVec Ideal S1x3072x256 .f32} {x y : Feat} (hX : Holds X x) (hY : Holds Y y) (b : Fin 8) (n k : Fin 64) :
    simK X Y b (ix2 n k) = ((sim x y b n k : ℝ) : EReal) := by
  pointwise [simK, acc6]
  simp only [partK_apply hX, partK_apply hY, nrmK_apply hX, nrmK_apply hY, ← EReal.coe_mul, coe_sum]
  rw [← Fin.sum_univ_six fun p => ((∑ d, x b n p d * y b k p d : ℝ) : EReal), coe_sum]
  exact div_coe_pos (mul_pos (nrm_pos x b n) (nrm_pos y b k))

theorem expK_apply (s : FVec Ideal S64x64 .f32) (n k : Fin 64) :
    expK s (ix2 n k) = Ideal.exp (s (ix2 n k) - Finset.fold max ⊥ (fun l => s (ix2 n l)) Finset.univ) := by
  pointwise [expK]
  rw [ofBits_negInf]

/-- The attention of a batch. -/
theorem attK_apply {X Y : FVec Ideal S1x3072x256 .f32} {x y : Feat} (hX : Holds X x) (hY : Holds Y y) (b : Fin 8) (n k : Fin 64) :
    attK X Y b (ix2 n k) = ((att x y b n k : ℝ) : EReal) := by
  pointwise [attK, softK]
  obtain ⟨r, hr⟩ := fold_max_coe fun l : Fin 64 => sim x y b n l
  simp only [expK_apply, simK_apply hX hY, hr]
  exact softmax_coe (n := 63) (fun l => sim x y b n l) r k

/-- A linear map of a block, without offset. -/
theorem mapK_apply {X : FVec Ideal S1x3072x256 .f32} {x : Feat} (hX : Holds X x) {w : FVec Ideal S256x256 .f32} {v : Fin 256 → Fin 256 → ℝ}
    (hw : ∀ o d, w (ix2 d o) = ((v o d : ℝ) : EReal)) : Third (mapK X w) fun b n p o => ∑ d, x b n p d * v o d := by
  intro b n p o
  pointwise [mapK]
  simp only [hX _ _ _ _, hw, ← EReal.coe_mul, coe_sum]

theorem ownK_apply {X : FVec Ideal S1x3072x256 .f32} {x : Feat} (hX : Holds X x) {w : FVec Ideal S256x256 .f32} {P : Params}
    (hw : ∀ o d, w (ix2 d o) = ((P.wx o d : ℝ) : EReal)) {c : FVec Ideal S1x256 .f32} (hc : ∀ o, c (ix2 (0 : Fin 1) o) = ((P.bx o : ℝ) : EReal)) :
    Third (ownK X w c) (own P x) := by
  intro b n p o
  pointwise [ownK, offK]
  simp only [mapK_apply hX hw _ _ _ _, hc, ← EReal.coe_add]
  rfl

theorem inv_n_eq : (Named.named κ "inv_n" 0x3C820821#32 : Ideal .f32) = ((1 / 63 : ℝ) : EReal) := rfl

theorem inv_m_eq : (Named.named κ "inv_m" 0x39AAAAAB#32 : Ideal .f32) = ((1 / 3072 : ℝ) : EReal) := rfl

/-- The neighbours' third. -/
theorem aroundK_apply {X : FVec Ideal S1x3072x256 .f32} {x : Feat} (hX : Holds X x) {w : FVec Ideal S256x256 .f32} {P : Params}
    (hw : ∀ o d, w (ix2 d o) = ((P.wn o d : ℝ) : EReal)) {c : FVec Ideal S1x256 .f32} (hc : ∀ o, c (ix2 (0 : Fin 1) o) = ((P.bn o : ℝ) : EReal)) :
    Third (aroundK X w c) (around P x) := by
  intro b n p o
  pointwise [aroundK, offK]
  have e : ∀ (k : Fin 64) (h : (row b n p).val / 64 * 64 + k.val < 3072), (⟨(row b n p).val / 64 * 64 + k.val, h⟩ : Fin 3072) = row b k p :=
    fun k h => row_eq h b k p (by simp only [row]; omega)
  simp only [e, mapK_apply hX hw _ _ _ _, hc, inv_n_eq, coe_sum, ← EReal.coe_sub, ← EReal.coe_mul, ← EReal.coe_add, around_eq]

/-- An entry of one piece of the matching third. -/
theorem pieceK_apply {X Y : FVec Ideal S1x3072x256 .f32} {x y : Feat} (hX : Holds X x) (hY : Holds Y y) {w : FVec Ideal S256x256 .f32} {P : Params}
    (hw : ∀ o d, w (ix2 d o) = ((P.wr o d : ℝ) : EReal)) {c : FVec Ideal S1x256 .f32} (hc : ∀ o, c (ix2 (0 : Fin 1) o) = ((P.br o : ℝ) : EReal))
    (b : Fin 8) (p : Fin 6) (k : Fin 48) (hk : k.val = b.val * 6 + p.val) (n : Fin 64) (o : Fin 256) :
    pieceK (attK X Y b) (mapK X w) (mapK Y w) c k (ix2 n o) = ((cross P x y b n p o : ℝ) : EReal) := by
  pointwise [pieceK]
  have e : ∀ (l : Fin 64) (h : k.val * 64 + l.val < 3072), (⟨k.val * 64 + l.val, h⟩ : Fin 3072) = row b l p :=
    fun l h => row_eq h b l p (by omega)
  simp only [e, attK_apply hX hY, mapK_apply hX hw _ _ _ _, mapK_apply hY hw _ _ _ _, hc, ← EReal.coe_mul, coe_sum, ← EReal.coe_sub,
    ← EReal.coe_add, cross_eq]

/-- The matching third. -/
theorem crossK_apply {X Y : FVec Ideal S1x3072x256 .f32} {x y : Feat} (hX : Holds X x) (hY : Holds Y y) {w : FVec Ideal S256x256 .f32} {P : Params}
    (hw : ∀ o d, w (ix2 d o) = ((P.wr o d : ℝ) : EReal)) {c : FVec Ideal S1x256 .f32} (hc : ∀ o, c (ix2 (0 : Fin 1) o) = ((P.br o : ℝ) : EReal)) :
    Third (crossK X Y w c) (cross P x y) := by
  intro b n p o
  have hk : b.val * 6 + p.val < 48 := by omega
  have hb : (⟨(b.val * 6 + p.val) / 6, by omega⟩ : Fin 8) = b := Fin.ext (by simp only []; omega)
  unfold crossK
  rw [concatenate_ofFn_apply (s₁ := S64x256) (t := S3072x256) (0 : Fin 2) (fun k : Fin 48 => pieceK (attK X Y ⟨k.val / 6, by omega⟩) (mapK X w) (mapK Y w) c k)
    _ rfl 64 rfl (ix2 (row b n p) o) ⟨b.val * 6 + p.val, hk⟩ (by show (row b n p).val / 64 = _; simp only [row]; omega) (ix2 n o)
    (by show n.val = (row b n p).val % 64; simp only [row]; omega) (by
      intro a ha
      match a with
      | ⟨0, _⟩ => exact absurd rfl ha
      | ⟨1, _⟩ => rfl)]
  simp only [hb]
  exact pieceK_apply hX hY hw hc b p _ rfl n o

/-- The rows' reciprocal lengths. -/
theorem invK_apply {P : Params} {x y : Feat} {s u v : FVec Ideal S3072x256 .f32} (hs : Third s (own P x)) (hu : Third u (around P x))
    (hv : Third v (cross P x y)) (b : Fin 8) (n : Fin 64) (p : Fin 6) :
    invK s u v (ix2 (row b n p) (0 : Fin 1)) = ((1 / rnrm P x y b n p : ℝ) : EReal) := by
  pointwise [invK, sqK]
  simp only [hs _ _ _ _, hu _ _ _ _, hv _ _ _ _, ← EReal.coe_mul, coe_sum, ← EReal.coe_add, ofBits_e12]
  rw [show ∑ o, own P x b n p o * own P x b n p o + ∑ o, around P x b n p o * around P x b n p o
    + ∑ o, cross P x y b n p o * cross P x y b n p o = rsq P x y b n p from rfl, sqrt_coe_nonneg (rsq_nonneg P x y b n p), max_coe,
    show max (√(rsq P x y b n p)) e12 = rnrm P x y b n p from rfl, ← EReal.coe_one]
  exact div_coe_pos (rnrm_pos P x y b n p)

/-- The normalised rows without their negative part. -/
theorem actK_apply {P : Params} {x y : Feat} {s u v : FVec Ideal S3072x256 .f32} (hs : Third s (own P x)) (hu : Third u (around P x))
    (hv : Third v (cross P x y)) (b : Fin 8) (n : Fin 64) (p : Fin 6) (c : Fin 768) :
    actK s u v (ix2 (row b n p) c) = ((act P x y b n p c : ℝ) : EReal) := by
  pointwise [actK]
  simp only [hs _ _ _ _, hu _ _ _ _, hv _ _ _ _, invK_apply hs hu hv]
  unfold act cat
  rw [← EReal.coe_zero]
  split_ifs <;> simp only [← EReal.coe_mul, max_coe, mul_one_div]

/-- A sum over a block's rows, in the order of the layer's rows. -/
theorem sum_row (f : Fin 3072 → ℝ) : ∑ r, f r = ∑ b : Fin 8, ∑ n : Fin 64, ∑ p : Fin 6, f (row b n p) := by
  rw [sum_split 8 384 rfl]
  refine Finset.sum_congr rfl fun b _ => ?_
  rw [sum_split 6 64 rfl, Finset.sum_comm]
  refine Finset.sum_congr rfl fun n _ => Finset.sum_congr rfl fun p _ => congrArg f (row_eq _ b n p ?_)
  simp only []
  omega

/-- A channel's sum over a block that holds real numbers. -/
theorem sumK_apply {h : FVec Ideal S3072x768 .f32} {f : Fin 8 → Fin 64 → Fin 6 → Fin 768 → ℝ}
    (hf : ∀ b n p c, h (ix2 (row b n p) c) = ((f b n p c : ℝ) : EReal)) (c : Fin 768) :
    sumK h (ix2 (0 : Fin 1) c) = ((∑ b : Fin 8, ∑ n : Fin 64, ∑ p : Fin 6, f b n p c : ℝ) : EReal) := by
  pointwise [sumK]
  have hr : ∀ r : Fin 3072, h (ix2 r c) = (((h (ix2 r c)).toReal : ℝ) : EReal) := fun r => by
    rw [show r = row ⟨r.val / 384, by omega⟩ ⟨r.val % 64, by omega⟩ ⟨r.val % 384 / 64, by omega⟩ from row_eq r.isLt _ _ _ (by simp only []; omega),
      hf, EReal.toReal_coe]
  rw [Finset.sum_congr rfl fun r _ => hr r, coe_sum, sum_row]
  simp only [hf, EReal.toReal_coe]

theorem meanK_apply (s : FVec Ideal S1x768 .f32) (c : Fin 768) :
    meanK s (ix2 (0 : Fin 1) c) = s (ix2 (0 : Fin 1) c) * ((1 / 3072 : ℝ) : EReal) := by
  pointwise [meanK]
  rw [inv_m_eq]

/-- The channels' scale. -/
theorem scaleK_apply {s q g : FVec Ideal S1x768 .f32} {P : Params} {x y : Feat} (c : Fin 768)
    (hs : s (ix2 (0 : Fin 1) c) = ((∑ b : Fin 8, ∑ n : Fin 64, ∑ p : Fin 6, act P x y b n p c : ℝ) : EReal))
    (hq : q (ix2 (0 : Fin 1) c) = ((∑ b : Fin 8, ∑ n : Fin 64, ∑ p : Fin 6, act P x y b n p c * act P x y b n p c : ℝ) : EReal))
    (hg : g (ix2 (0 : Fin 1) c) = ((P.ga c : ℝ) : EReal)) :
    scaleK s q g (ix2 (0 : Fin 1) c) = ((P.ga c * (√(var P x y c + e5))⁻¹ : ℝ) : EReal) := by
  pointwise [scaleK]
  rw [meanK_apply, hs, hq, hg, inv_m_eq, ofBits_e5, ← EReal.coe_zero]
  simp only [← EReal.coe_mul, ← EReal.coe_sub, max_coe, ← EReal.coe_add]
  rw [show (∑ b : Fin 8, ∑ n : Fin 64, ∑ p : Fin 6, act P x y b n p c) * (1 / 3072) = mean P x y c from mul_one_div _ _, var_eq,
    rsqrt_coe_pos (add_pos_of_nonneg_of_pos (var_nonneg P x y c) e5_pos), ← EReal.coe_mul]

theorem batchK_apply (h : FVec Ideal S3072x768 .f32) (k : Fin 8) (r : Fin 384) (c : Fin 768) :
    batchK h k (ix2 r c) = h (ix2 (⟨k.val * 384 + r.val, by omega⟩ : Fin 3072) c) := by
  pointwise [batchK]

/-- A batch's block of results. -/
theorem blockK_apply {h : FVec Ideal S3072x768 .f32} {s q g e : FVec Ideal S1x768 .f32} {P : Params} {x y : Feat}
    (hh : ∀ b n p c, h (ix2 (row b n p) c) = ((act P x y b n p c : ℝ) : EReal))
    (hs : ∀ c, s (ix2 (0 : Fin 1) c) = ((∑ b : Fin 8, ∑ n : Fin 64, ∑ p : Fin 6, act P x y b n p c : ℝ) : EReal))
    (hq : ∀ c, q (ix2 (0 : Fin 1) c) = ((∑ b : Fin 8, ∑ n : Fin 64, ∑ p : Fin 6, act P x y b n p c * act P x y b n p c : ℝ) : EReal))
    (hg : ∀ c, g (ix2 (0 : Fin 1) c) = ((P.ga c : ℝ) : EReal)) (he : ∀ c, e (ix2 (0 : Fin 1) c) = ((P.be c : ℝ) : EReal))
    (k : Fin 8) (r : Fin 384) (c : Fin 768) :
    blockK h s q g e k (ix3 (0 : Fin 1) r c) = ((out P x y k ⟨r.val % 64, by omega⟩ ⟨r.val / 64, by omega⟩ c : ℝ) : EReal) := by
  pointwise [blockK]
  rw [batchK_apply, row_eq (by omega) k ⟨r.val % 64, by omega⟩ ⟨r.val / 64, by omega⟩ (by simp only []; omega), hh, scaleK_apply c (hs c) (hq c) (hg c),
    meanK_apply, hs, he]
  simp only [← EReal.coe_mul, ← EReal.coe_sub, ← EReal.coe_add]
  rw [show (∑ b : Fin 8, ∑ n : Fin 64, ∑ p : Fin 6, act P x y b n p c) * (1 / 3072) = mean P x y c from mul_one_div _ _, out_eq]

end Cert.GraphConv.Ker

end
-- ==== Proof.RefTerms.lean ====
/- The reference's composed terms as functions of their arrays: both results come from the same ones. -/
module

public import Idealize.ShloMosaic.Lib.Pointwise
public import Idealize.ShloMosaic.Lib.Tactic.CleanTypes
public import proofs.«01_k».proof.Proof.Gen.ReferenceIdeal.Run
public import proofs.«01_k».proof.Proof.Reals

@[expose] public section

set_option maxRecDepth 16384

noncomputable section

namespace Cert.GraphConv.Ref

open Cert.ReferenceIdeal Cert.ReferenceIdeal.Gen Idealize.ShloMosaic Idealize.ShloMosaic.TcCoe

/-- The node features with parts and features on one axis. -/
def flatT (x : FVec Ideal S8x64x6x256 .f32) : FVec Ideal S8x64x1536 .f32 :=
  shapeCast _ x shapeCasts_S8x64x6x256_S8x64x1536

/-- The cosine similarities of two flattened graphs' nodes. -/
def simT (u v : FVec Ideal S8x64x1536 .f32) : FVec Ideal S8x64x64 .f32 :=
  Host.divf (Host.dotGeneral dot_S8x64x1536_S8x64x1536_S8x64x64_2_2_1_1_0_0 none u v) (mulf (broadcastInDim S8x64x64 ![0, 1, 2] bcast_S8x64x1_S8x64x64_0_1_2 (broadcastInDim S8x64x1 ![0, 1] bcast_S8x64_S8x64x1_0_1 (maximumf (Host.sqrt (Host.reduceAdd (mulf u u) (constant S_ .f32 0x00000000#32) reducesTo_S8x64x1536_S8x64_d2 h_S_)) (broadcastInDim S8x64 ![] bcast_S_S8x64 (constant S_ .f32 0x358637BD#32))))) (broadcastInDim S8x64x64 ![0, 1, 2] bcast_S8x1x64_S8x64x64_0_1_2 (broadcastInDim S8x1x64 ![0, 2] bcast_S8x64_S8x1x64_0_2 (maximumf (Host.sqrt (Host.reduceAdd (mulf v v) (constant S_ .f32 0x00000000#32) reducesTo_S8x64x1536_S8x64_d2 h_S_)) (broadcastInDim S8x64 ![] bcast_S_S8x64 (constant S_ .f32 0x358637BD#32))))))

/-- The similarities of the other graph's nodes to this one's. -/
def swapT (s : FVec Ideal S8x64x64 .f32) : FVec Ideal S8x64x64 .f32 :=
  transpose S8x64x64 [0, 2, 1] s transposes_S8x64x64_S8x64x64_0_2_1

/-- A softmax's numerators, row by row. -/
def expT (s : FVec Ideal S8x64x64 .f32) : FVec Ideal S8x64x64 .f32 :=
  Host.exp (subf s (broadcastInDim S8x64x64 ![0, 1, 2] bcast_S8x64x1_S8x64x64_0_1_2 (broadcastInDim S8x64x1 ![0, 1] bcast_S8x64_S8x64x1_0_1 (maximumf (broadcastInDim S8x64 ![] bcast_S_S8x64 (constant S_ .f32 0xFF800000#32)) (Host.reduce FloatOps.maximumf s (constant S_ .f32 0xFF800000#32) reducesTo_S8x64x64_S8x64_d2 h_S_)))))

/-- A softmax, row by row. -/
def attT (s : FVec Ideal S8x64x64 .f32) : FVec Ideal S8x64x64 .f32 :=
  Host.divf (expT s) (broadcastInDim S8x64x64 ![0, 1, 2] bcast_S8x64x1_S8x64x64_0_1_2 (broadcastInDim S8x64x1 ![0, 1] bcast_S8x64_S8x64x1_0_1 (Host.reduceAdd (expT s) (constant S_ .f32 0x00000000#32) reducesTo_S8x64x64_S8x64_d2 h_S_)))

/-- A linear map with its offset. -/
def linT (x : FVec Ideal S8x64x6x256 .f32) (w : FVec Ideal S256x256 .f32) (b : FVec Ideal S256 .f32) : FVec Ideal S8x64x6x256 .f32 :=
  addf (Host.dotGeneral dot_S8x64x6x256_S256x256_S8x64x6x256_3_1_012_0_n_n none x w) (broadcastInDim S8x64x6x256 ![0, 1, 2, 3] bcast_S1x1x1x256_S8x64x6x256_0_1_2_3 (broadcastInDim S1x1x1x256 ![3] bcast_S256_S1x1x1x256_3 b))

/-- The mean of a graph's other nodes. -/
def nbrT (x : FVec Ideal S8x64x6x256 .f32) : FVec Ideal S8x64x6x256 .f32 :=
  Host.divf (subf (broadcastInDim S8x64x6x256 ![0, 1, 2, 3] bcast_S8x1x6x256_S8x64x6x256_0_1_2_3 (broadcastInDim S8x1x6x256 ![0, 2, 3] bcast_S8x6x256_S8x1x6x256_0_2_3 (Host.reduceAdd x (constant S_ .f32 0x00000000#32) reducesTo_S8x64x6x256_S8x6x256_d1 h_S_))) x) (broadcastInDim S8x64x6x256 ![] bcast_S_S8x64x6x256 (constant S_ .f32 0x427C0000#32))

/-- What remains of the nodes when their attended match in the other graph is taken away. -/
def diffT (u v : FVec Ideal S8x64x1536 .f32) (s : FVec Ideal S8x64x64 .f32) : FVec Ideal S8x64x6x256 .f32 :=
  shapeCast _ (subf u (Host.dotGeneral dot_S8x64x64_S8x64x1536_S8x64x1536_2_1_1_2_0_0 none (attT s) v)) shapeCasts_S8x64x1536_S8x64x6x256

/-- The three linear maps' results side by side. -/
def catT (x y z : FVec Ideal S8x64x6x256 .f32) : FVec Ideal S8x64x6x768 .f32 :=
  concatenate S8x64x6x768 3 [⟨S8x64x6x256, x⟩, ⟨S8x64x6x256, y⟩, ⟨S8x64x6x256, z⟩] concatenates_S8x64x6x256_S8x64x6x256_S8x64x6x256_S8x64x6x768_d3

/-- Rows of length one, the negative part dropped, channels before parts. -/
def actT (h : FVec Ideal S8x64x6x768 .f32) : FVec Ideal S512x768x6 .f32 :=
  transpose S512x768x6 [0, 2, 1] (shapeCast _ (maximumf (Host.divf h (broadcastInDim S8x64x6x768 ![0, 1, 2, 3] bcast_S8x64x6x1_S8x64x6x768_0_1_2_3 (maximumf (Host.sqrt (broadcastInDim S8x64x6x1 ![0, 1, 2] bcast_S8x64x6_S8x64x6x1_0_1_2 (Host.reduceAdd (mulf h h) (constant S_ .f32 0x00000000#32) reducesTo_S8x64x6x768_S8x64x6_d3 h_S_))) (broadcastInDim S8x64x6x1 ![] bcast_S_S8x64x6x1 (constant S_ .f32 0x2B8CBCCC#32))))) (broadcastInDim S8x64x6x768 ![] bcast_S_S8x64x6x768 (constant S_ .f32 0x00000000#32))) shapeCasts_S8x64x6x768_S512x6x768) transposes_S512x6x768_S512x768x6_0_2_1

/-- A channel's mean over nodes and parts. -/
def avgT (a : FVec Ideal S512x768x6 .f32) : FVec Ideal S1x768x1 .f32 :=
  Host.divf (broadcastInDim S1x768x1 ![1] bcast_S768_S1x768x1_1 (Host.reduceAdd a (constant S_ .f32 0x00000000#32) reducesTo_S512x768x6_S768_d0_2 h_S_)) (broadcastInDim S1x768x1 ![] bcast_S_S1x768x1 (constant S_ .f32 0x45400000#32))

/-- An array less its channels' means. -/
def devT (a : FVec Ideal S512x768x6 .f32) : FVec Ideal S512x768x6 .f32 :=
  subf a (broadcastInDim S512x768x6 ![0, 1, 2] bcast_S1x768x1_S512x768x6_0_1_2 (avgT a))

/-- The batch norm, in the arguments' layout. -/
def outT (a : FVec Ideal S512x768x6 .f32) (ga be : FVec Ideal S768 .f32) : FVec Ideal S8x64x6x768 .f32 :=
  shapeCast _ (transpose S512x6x768 [0, 2, 1] (addf (Host.divf (mulf (broadcastInDim S512x768x6 ![0, 1, 2] bcast_S1x768x1_S512x768x6_0_1_2 (broadcastInDim S1x768x1 ![1] bcast_S768_S1x768x1_1 ga)) (devT a)) (broadcastInDim S512x768x6 ![0, 1, 2] bcast_S1x768x1_S512x768x6_0_1_2 (Host.sqrt (addf (avgT (mulf (devT a) (devT a))) (broadcastInDim S1x768x1 ![] bcast_S_S1x768x1 (constant S_ .f32 0x3727C5AC#32)))))) (broadcastInDim S512x768x6 ![0, 1, 2] bcast_S1x768x1_S512x768x6_0_1_2 (broadcastInDim S1x768x1 ![1] bcast_S768_S1x768x1_1 be))) transposes_S512x768x6_S512x6x768_0_2_1) shapeCasts_S512x6x768_S8x64x6x768

end Cert.GraphConv.Ref

end
-- ==== Proof.RefValue.lean ====
/- The reference's terms at real arrays: each entry is the definition's real number. -/
module

public import proofs.«01_k».proof.Proof.RefTerms

@[expose] public section

set_option maxRecDepth 16384

noncomputable section

namespace Cert.GraphConv.Ref

open Cert.ReferenceIdeal Cert.ReferenceIdeal.Gen Idealize.ShloMosaic Idealize.ShloMosaic.TcCoe

/-- An array that holds a graph batch's features. -/
def Holds (X : FVec Ideal S8x64x6x256 .f32) (x : Feat) : Prop := ∀ b n p d, X (ix4 b n p d) = ((x b n p d : ℝ) : EReal)

theorem flatT_apply (X : FVec Ideal S8x64x6x256 .f32) (b : Fin 8) (n : Fin 64) (e : Fin 1536) :
    flatT X (ix3 b n e) = X (ix4 b n ⟨e.val / 256, by omega⟩ ⟨e.val % 256, by omega⟩) := by
  pointwise [flatT]

/-- A flattened array's entry. -/
theorem flatT_at {X : FVec Ideal S8x64x6x256 .f32} {x : Feat} (hX : Holds X x) (b : Fin 8) (n : Fin 64) (p : Fin 6) (d : Fin 256)
    (h : p.val * 256 + d.val < 1536) : flatT X (ix3 b n ⟨p.val * 256 + d.val, h⟩) = ((x b n p d : ℝ) : EReal) := by
  rw [flatT_apply, ← hX]
  refine congrArg X (congrArg₂ (ix4 b n) (Fin.ext ?_) (Fin.ext ?_)) <;> simp only [] <;> omega

/-- Inner products of flattened nodes. -/
theorem flatT_dot {X Y : FVec Ideal S8x64x6x256 .f32} {x y : Feat} (hX : Holds X x) (hY : Holds Y y) (b : Fin 8) (n k : Fin 64) :
    ∑ e : Fin 1536, flatT X (ix3 b n e) * flatT Y (ix3 b k e) = ((dot x y b n k : ℝ) : EReal) := by
  rw [sum_split 6 256 rfl]
  simp only [flatT_at hX, flatT_at hY, ← EReal.coe_mul, coe_sum]
  rfl

theorem simT_apply {X Y : FVec Ideal S8x64x6x256 .f32} {x y : Feat} (hX : Holds X x) (hY : Holds Y y) (b : Fin 8) (n k : Fin 64) :
    simT (flatT X) (flatT Y) (ix3 b n k) = ((sim x y b n k : ℝ) : EReal) := by
  pointwise [simT]
  rw [flatT_dot hX hY, flatT_dot hX hX, flatT_dot hY hY, ofBits_e6, show dot x x b n n = sq x b n from rfl,
    show dot y y b k k = sq y b k from rfl, sqrt_coe_nonneg (sq_nonneg x b n), sqrt_coe_nonneg (sq_nonneg y b k),
    max_coe, max_coe, ← EReal.coe_mul]
  exact div_coe_pos (mul_pos (nrm_pos x b n) (nrm_pos y b k))

theorem swapT_apply (s : FVec Ideal S8x64x64 .f32) (b : Fin 8) (n k : Fin 64) : swapT s (ix3 b n k) = s (ix3 b k n) := by
  pointwise [swapT]

theorem expT_apply (s : FVec Ideal S8x64x64 .f32) (b : Fin 8) (n k : Fin 64) :
    expT s (ix3 b n k) = Ideal.exp (s (ix3 b n k) - Finset.fold max ⊥ (fun l => s (ix3 b n l)) Finset.univ) := by
  pointwise [expT]
  rw [ofBits_negInf, max_eq_right bot_le]

/-- The attention array. -/
theorem attT_apply {x y : Feat} {s : FVec Ideal S8x64x64 .f32} (hs : ∀ b n k, s (ix3 b n k) = ((sim x y b n k : ℝ) : EReal))
    (b : Fin 8) (n k : Fin 64) : attT s (ix3 b n k) = ((att x y b n k : ℝ) : EReal) := by
  pointwise [attT]
  obtain ⟨r, hr⟩ := fold_max_coe fun l : Fin 64 => sim x y b n l
  simp only [expT_apply, hs, hr]
  exact softmax_coe (n := 63) (fun l => sim x y b n l) r k

/-- A linear map of an array. -/
theorem linT_apply {V : FVec Ideal S8x64x6x256 .f32} {v : Feat} (hV : Holds V v) {W : FVec Ideal S256x256 .f32} {w : Fin 256 → Fin 256 → ℝ}
    (hW : ∀ o d, W (ix2 o d) = ((w o d : ℝ) : EReal)) {C : FVec Ideal S256 .f32} {c : Fin 256 → ℝ} (hC : ∀ o, C (ix1 o) = ((c o : ℝ) : EReal)) :
    Holds (linT V W C) (fun b n p o => lin w c (v b n p) o) := by
  intro b n p o
  pointwise [linT]
  simp only [hV _ _ _ _, hW, hC, ← EReal.coe_mul, coe_sum, ← EReal.coe_add]
  rfl

theorem nbrT_apply {X : FVec Ideal S8x64x6x256 .f32} {x : Feat} (hX : Holds X x) : Holds (nbrT X) (nbr x) := by
  intro b n p d
  pointwise [nbrT]
  simp only [hX _ _ _ _, coe_sum, ← EReal.coe_sub, ofBits_63]
  exact div_coe_pos (by norm_num)

theorem diffT_apply {X Y : FVec Ideal S8x64x6x256 .f32} {x y : Feat} (hX : Holds X x) (hY : Holds Y y)
    {s : FVec Ideal S8x64x64 .f32} (hs : ∀ b n k, s (ix3 b n k) = ((sim x y b n k : ℝ) : EReal)) :
    Holds (diffT (flatT X) (flatT Y) s) (diff x y) := by
  intro b n p d
  pointwise [diffT]
  simp only [flatT_at hX, flatT_at hY, attT_apply hs, ← EReal.coe_mul, coe_sum, ← EReal.coe_sub]
  rfl

/-- The three thirds side by side. -/
theorem catT_apply {P : Params} {x y : Feat} {A B C : FVec Ideal S8x64x6x256 .f32} (hA : Holds A (own P x)) (hB : Holds B (around P x))
    (hC : Holds C (cross P x y)) (b : Fin 8) (n : Fin 64) (p : Fin 6) (c : Fin 768) :
    catT A B C (ix4 b n p c) = ((cat P x y b n p c : ℝ) : EReal) := by
  pointwise [catT]
  simp only [hA _ _ _ _, hB _ _ _ _, hC _ _ _ _]
  unfold cat
  split_ifs <;> rfl

/-- The normalised rows without their negative part. -/
theorem actT_apply {P : Params} {x y : Feat} {H : FVec Ideal S8x64x6x768 .f32} (hH : ∀ b n p c, H (ix4 b n p c) = ((cat P x y b n p c : ℝ) : EReal))
    (b : Fin 8) (n : Fin 64) (c : Fin 768) (p : Fin 6) (h : b.val * 64 + n.val < 512) :
    actT H (ix3 ⟨b.val * 64 + n.val, h⟩ c p) = ((act P x y b n p c : ℝ) : EReal) := by
  pointwise [actT]
  have eb : (⟨(b.val * 64 + n.val) / 64, by omega⟩ : Fin 8) = b := Fin.ext (by simp only []; omega)
  have en : (⟨(b.val * 64 + n.val) % 64, by omega⟩ : Fin 64) = n := Fin.ext (by simp only []; omega)
  simp only [eb, en, hH, ← EReal.coe_mul, coe_sum, rsq_eq, sqrt_coe_nonneg (rsq_nonneg P x y b n p), ofBits_e12, max_coe]
  rw [show max (√(rsq P x y b n p)) e12 = rnrm P x y b n p from rfl, div_coe_pos (rnrm_pos P x y b n p), ← EReal.coe_zero, max_coe]
  rfl

/-- The host's sum over rows and parts of one channel. -/
theorem sum_rows (h : S512x768x6.ReducesTo [0, 2] S768) (a : FVec Ideal S512x768x6 .f32) (z : EReal) (c : Fin 768) :
    Ideal.hostReduceAdd h a z (ix1 c)
      = z + ∑ b : Fin 8, ∑ n : Fin 64, ∑ p : Fin 6, a (ix3 ⟨b.val * 64 + n.val, by omega⟩ c p) := by
  have hf : ∀ i : S512x768x6.Idx, h.drop i = ix1 c ↔ ∃ k : Fin 512 × Fin 6, (ix3 k.1 c k.2 : S512x768x6.Idx) = i := by
    intro i
    constructor
    · intro e
      refine ⟨(i 0, i 2), ?_⟩
      funext a; apply Fin.ext
      match a with
      | ⟨0, _⟩ => rfl
      | ⟨1, _⟩ => exact (congrArg Fin.val (congrFun e 0)).symm
      | ⟨2, _⟩ => rfl
    · rintro ⟨k, rfl⟩
      funext b
      apply Fin.ext
      match b with
      | ⟨0, _⟩ => rfl
  have hs := Finset.sum_filter_eq_sum_of_fiber (fun i => h.drop i = ix1 c) (fun k : Fin 512 × Fin 6 => (ix3 k.1 c k.2 : S512x768x6.Idx))
    (fun k l e => Prod.ext (congrFun e 0) (congrFun e 2)) hf a
  refine (congrArg (z + ·) hs).trans ?_
  rw [Fintype.sum_prod_type, sum_split 8 64 rfl]

/-- A channel's average of a real array. -/
theorem avgT_apply {a : FVec Ideal S512x768x6 .f32} {f : Fin 8 → Fin 64 → Fin 6 → Fin 768 → ℝ}
    (ha : ∀ b n c p h, a (ix3 ⟨b.val * 64 + n.val, h⟩ c p) = ((f b n p c : ℝ) : EReal)) (c : Fin 768) :
    avgT a (ix3 0 c 0) = (((∑ b : Fin 8, ∑ n : Fin 64, ∑ p : Fin 6, f b n p c) / 3072 : ℝ) : EReal) := by
  pointwise [avgT]
  rw [sum_rows, ofBits_3072]
  simp only [ha, coe_sum, zero_add]
  exact div_coe_pos (by norm_num)

theorem devT_apply {a : FVec Ideal S512x768x6 .f32} {f : Fin 8 → Fin 64 → Fin 6 → Fin 768 → ℝ}
    (ha : ∀ b n c p h, a (ix3 ⟨b.val * 64 + n.val, h⟩ c p) = ((f b n p c : ℝ) : EReal)) (b : Fin 8) (n : Fin 64) (c : Fin 768) (p : Fin 6)
    (h : b.val * 64 + n.val < 512) :
    devT a (ix3 ⟨b.val * 64 + n.val, h⟩ c p)
      = ((f b n p c - (∑ b : Fin 8, ∑ n : Fin 64, ∑ p : Fin 6, f b n p c) / 3072 : ℝ) : EReal) := by
  pointwise [devT]
  rw [ha, avgT_apply ha, ← EReal.coe_sub]

/-- The batch norm's result. -/
theorem outT_apply {P : Params} {x y : Feat} {H : FVec Ideal S8x64x6x768 .f32} (hH : ∀ b n p c, H (ix4 b n p c) = ((cat P x y b n p c : ℝ) : EReal))
    {G B : FVec Ideal S768 .f32} (hG : ∀ c, G (ix1 c) = ((P.ga c : ℝ) : EReal)) (hB : ∀ c, B (ix1 c) = ((P.be c : ℝ) : EReal))
    (b : Fin 8) (n : Fin 64) (p : Fin 6) (c : Fin 768) :
    outT (actT H) G B (ix4 b n p c) = ((out P x y b n p c : ℝ) : EReal) := by
  have hd := devT_apply (actT_apply hH)
  have hv : avgT (mulf (devT (actT H)) (devT (actT H))) (ix3 0 c 0) = ((var P x y c : ℝ) : EReal) :=
    avgT_apply (f := fun b n p c => (act P x y b n p c - mean P x y c) * (act P x y b n p c - mean P x y c))
      (fun b n c p h => by
        rw [show mulf (devT (actT H)) (devT (actT H)) (ix3 ⟨b.val * 64 + n.val, h⟩ c p)
          = devT (actT H) (ix3 ⟨b.val * 64 + n.val, h⟩ c p) * devT (actT H) (ix3 ⟨b.val * 64 + n.val, h⟩ c p) from rfl, hd, ← EReal.coe_mul]
        rfl) c
  have hp : 0 < var P x y c + e5 := add_pos_of_nonneg_of_pos (var_nonneg P x y c) e5_pos
  pointwise [outT]
  rw [hv, hd, hG, hB, ofBits_e5, ← EReal.coe_add, ← EReal.coe_mul, sqrt_coe_nonneg hp.le, div_coe_pos (Real.sqrt_pos.mpr hp), ← EReal.coe_add]
  rfl

end Cert.GraphConv.Ref

end
-- ==== Proof.RefRun.lean ====
/- The reference's run: from real arguments both results hold the definition's layer. -/
module

public import proofs.«01_k».proof.Proof.RefValue

@[expose] public section

set_option maxRecDepth 16384

noncomputable section

namespace Cert.GraphConv.Ref

open Cert.ReferenceIdeal Cert.ReferenceIdeal.Gen Idealize.ShloMosaic Idealize.ShloMosaic.TcCoe Idealize.SL.Sem Idealize.ShloMosaic.StableHlo

/-- The layer's parameters as arrays hold them. -/
structure HoldsParams (P : Params) (wx : FVec Ideal S256x256 .f32) (bx : FVec Ideal S256 .f32) (wn : FVec Ideal S256x256 .f32)
    (bn : FVec Ideal S256 .f32) (wr : FVec Ideal S256x256 .f32) (br : FVec Ideal S256 .f32) (ga be : FVec Ideal S768 .f32) : Prop where
  wx : ∀ o d, wx (ix2 o d) = ((P.wx o d : ℝ) : EReal)
  bx : ∀ o, bx (ix1 o) = ((P.bx o : ℝ) : EReal)
  wn : ∀ o d, wn (ix2 o d) = ((P.wn o d : ℝ) : EReal)
  bn : ∀ o, bn (ix1 o) = ((P.bn o : ℝ) : EReal)
  wr : ∀ o d, wr (ix2 o d) = ((P.wr o d : ℝ) : EReal)
  br : ∀ o, br (ix1 o) = ((P.br o : ℝ) : EReal)
  ga : ∀ c, ga (ix1 c) = ((P.ga c : ℝ) : EReal)
  be : ∀ c, be (ix1 c) = ((P.be c : ℝ) : EReal)

/-- One result: the layer of graph `x` matched against graph `y` with similarities `s`. -/
def resT (x y : FVec Ideal S8x64x6x256 .f32) (s : FVec Ideal S8x64x64 .f32) (wx : FVec Ideal S256x256 .f32) (bx : FVec Ideal S256 .f32)
    (wn : FVec Ideal S256x256 .f32) (bn : FVec Ideal S256 .f32) (wr : FVec Ideal S256x256 .f32) (br : FVec Ideal S256 .f32)
    (ga be : FVec Ideal S768 .f32) : FVec Ideal S8x64x6x768 .f32 :=
  outT (actT (catT (linT x wx bx) (linT (nbrT x) wn bn) (linT (diffT (flatT x) (flatT y) s) wr br))) ga be

/-- The result is the definition's layer. -/
theorem resT_apply {P : Params} {x y : Feat} {X Y : FVec Ideal S8x64x6x256 .f32} (hX : Holds X x) (hY : Holds Y y)
    {s : FVec Ideal S8x64x64 .f32} (hs : ∀ b n k, s (ix3 b n k) = ((sim x y b n k : ℝ) : EReal))
    {wx wn wr : FVec Ideal S256x256 .f32} {bx bn br : FVec Ideal S256 .f32} {ga be : FVec Ideal S768 .f32}
    (hP : HoldsParams P wx bx wn bn wr br ga be) (b : Fin 8) (n : Fin 64) (p : Fin 6) (c : Fin 768) :
    resT X Y s wx bx wn bn wr br ga be (ix4 b n p c) = ((out P x y b n p c : ℝ) : EReal) :=
  outT_apply (catT_apply (linT_apply hX hP.wx hP.bx) (linT_apply (nbrT_apply hX) hP.wn hP.bn)
    (linT_apply (diffT_apply hX hY hs) hP.wr hP.br)) hP.ga hP.be b n p c

/-- The result as one function of its index. -/
theorem resT_eq {P : Params} {x y : Feat} {X Y : FVec Ideal S8x64x6x256 .f32} (hX : Holds X x) (hY : Holds Y y)
    {s : FVec Ideal S8x64x64 .f32} (hs : ∀ b n k, s (ix3 b n k) = ((sim x y b n k : ℝ) : EReal))
    {wx wn wr : FVec Ideal S256x256 .f32} {bx bn br : FVec Ideal S256 .f32} {ga be : FVec Ideal S768 .f32}
    (hP : HoldsParams P wx bx wn bn wr br ga be) :
    resT X Y s wx bx wn bn wr br ga be = fun j => ((out P x y (j 0) (j 1) (j 2) (j 3) : ℝ) : EReal) := by
  funext j
  idx_vars j
  exact resT_apply hX hY hs hP _ _ _ _

/-- The reference's run at real arguments: both results, and the arguments unchanged. -/
theorem run (m : (ℓ : Loc nD τ sig) → Buf (Elt Ideal) ℓ) (ρ : Dev nD → PrngReg) (P : Dev nD → Params) (x y : Dev nD → Feat)
    (hX : ∀ c : Dev nD, Holds (m ((c.tc : Thread nD τ).loc main_arg0)) (x c)) (hY : ∀ c : Dev nD, Holds (m ((c.tc : Thread nD τ).loc main_arg1)) (y c))
    (hP : ∀ c : Dev nD, HoldsParams (P c) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))) :
    θ_run defs (onTc (τ := τ) (main (F := Ideal))) ⟨m, fun _ => 0, ρ⟩ fun r => ∀ c : Dev nD,
      r.2.mem ((c.tc : Thread nD τ).loc main_v115) = (fun j : S8x64x6x768.Idx => ((out (P c) (x c) (y c) (j 0) (j 1) (j 2) (j 3) : ℝ) : EReal))
      ∧ r.2.mem ((c.tc : Thread nD τ).loc main_v149) = (fun j : S8x64x6x768.Idx => ((out (P c) (y c) (x c) (j 0) (j 1) (j 2) (j 3) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun _ h c => ⟨(h c).1.trans ?_, (h c).2.1.trans ?_, (h c).2.2⟩) (Value.run m ρ)
  · exact resT_eq (hX c) (hY c) (s := simT (flatT _) (flatT _)) (simT_apply (hX c) (hY c)) (hP c)
  · exact resT_eq (hY c) (hX c) (s := swapT (simT (flatT _) (flatT _)))
      (fun b n k => by rw [swapT_apply, simT_apply (hX c) (hY c), sim_swap]) (hP c)

end Cert.GraphConv.Ref

end
-- ==== Proof.KerRun.lean ====
/- The kernel's run: from real arguments both results hold the definition's layer. -/
module

public import Idealize.ShloMosaic.Lib.Claim
public import Idealize.ShloMosaic.Lib.Pipeline.ValueKit.Held
public import proofs.«01_k».proof.Proof.KerPoint
public import proofs.«01_k».proof.Proof.KerValue
public import proofs.«01_k».proof.Proof.RefRun

@[expose] public section

set_option maxRecDepth 16384

noncomputable section

namespace Cert.GraphConv.Ker

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-! ## What the region is handed -/

/-- A graph's array as one block of rows. -/
def graphT (X : FVec Ideal S8x64x6x256 .f32) : FVec Ideal S1x3072x256 .f32 :=
  broadcastInDim S1x3072x256 ![1, 2] bcast_S3072x256_S1x3072x256_1_2
    (shapeCast S3072x256 (transpose S8x6x64x256 [0, 2, 1, 3] X transposes_S8x64x6x256_S8x6x64x256_0_2_1_3) shapeCasts_S8x6x64x256_S3072x256)

theorem V_graphs (c : Dev nD) : V m c main_v6 = concatenate S2x3072x256 0 [⟨S1x3072x256, graphT (m ((c.tc : Thread nD τ).loc main_arg0))⟩,
    ⟨S1x3072x256, graphT (m ((c.tc : Thread nD τ).loc main_arg1))⟩] concatenates_S1x3072x256_S1x3072x256_S2x3072x256_d0 := by
  unfold_abbrev_sides
  simp only [hostOps0, List.flatten_cons, List.flatten_nil, List.append_nil]
  after_results
  rfl

theorem V_wx (c : Dev nD) : V m c main_v7 = transpose S256x256 [1, 0] (m ((c.tc : Thread nD τ).loc main_arg4)) transposes_S256x256_S256x256_1_0 := by
  unfold_abbrev_sides
  simp only [hostOps0, List.flatten_cons, List.flatten_nil, List.append_nil]
  after_results

theorem V_wn (c : Dev nD) : V m c main_v8 = transpose S256x256 [1, 0] (m ((c.tc : Thread nD τ).loc main_arg6)) transposes_S256x256_S256x256_1_0 := by
  unfold_abbrev_sides
  simp only [hostOps0, List.flatten_cons, List.flatten_nil, List.append_nil]
  after_results

theorem V_wr (c : Dev nD) : V m c main_v9 = transpose S256x256 [1, 0] (m ((c.tc : Thread nD τ).loc main_arg8)) transposes_S256x256_S256x256_1_0 := by
  unfold_abbrev_sides
  simp only [hostOps0, List.flatten_cons, List.flatten_nil, List.append_nil]
  after_results

theorem V_bx (c : Dev nD) : V m c main_v10 = shapeCast S1x256 (m ((c.tc : Thread nD τ).loc main_arg5)) shapeCasts_S256_S1x256 := by
  unfold_abbrev_sides
  simp only [hostOps0, List.flatten_cons, List.flatten_nil, List.append_nil]
  after_results
  rfl

theorem V_bn (c : Dev nD) : V m c main_v11 = shapeCast S1x256 (m ((c.tc : Thread nD τ).loc main_arg7)) shapeCasts_S256_S1x256 := by
  unfold_abbrev_sides
  simp only [hostOps0, List.flatten_cons, List.flatten_nil, List.append_nil]
  after_results
  rfl

theorem V_br (c : Dev nD) : V m c main_v12 = shapeCast S1x256 (m ((c.tc : Thread nD τ).loc main_arg9)) shapeCasts_S256_S1x256 := by
  unfold_abbrev_sides
  simp only [hostOps0, List.flatten_cons, List.flatten_nil, List.append_nil]
  after_results
  rfl

theorem V_ga (c : Dev nD) : V m c main_v13 = shapeCast S1x768 (m ((c.tc : Thread nD τ).loc main_arg10)) shapeCasts_S768_S1x768 := by
  unfold_abbrev_sides
  simp only [hostOps0, List.flatten_cons, List.flatten_nil, List.append_nil]
  after_results
  rfl

theorem V_be (c : Dev nD) : V m c main_v14 = shapeCast S1x768 (m ((c.tc : Thread nD τ).loc main_arg11)) shapeCasts_S768_S1x768 := by
  unfold_abbrev_sides
  simp only [hostOps0, List.flatten_cons, List.flatten_nil, List.append_nil]
  after_results
  rfl

/-- Graph `g` of the two. -/
def pick (x y : Feat) (g : Nat) : Feat := if g = 0 then x else y

theorem graphT_apply {X : FVec Ideal S8x64x6x256 .f32} {x : Feat} (hX : Ref.Holds X x) : Holds (graphT X) x := by
  intro b n p d
  pointwise [graphT]
  rw [← hX]
  have e0 : (row b n p).val / 384 = b.val := by simp only [row]; omega
  have e1 : (row b n p).val % 64 = n.val := by simp only [row]; omega
  have e2 : (row b n p).val / 64 % 6 = p.val := by simp only [row]; omega
  simp only [e0, e1, e2]

/-- The blocks the windows stage at a point. -/
theorem idx : ∀ t : Fin cfg0.N, (cfg0.win 0).index t = ![t.val / 9, 0, 0] ∧ (cfg0.win 1).index t = ![1 - t.val / 9, 0, 0]
    ∧ (cfg0.win 2).index t = ![0, 0] ∧ (cfg0.win 3).index t = ![0, 0] ∧ (cfg0.win 4).index t = ![0, 0]
    ∧ (cfg0.win 5).index t = ![0, 0] ∧ (cfg0.win 6).index t = ![0, 0] ∧ (cfg0.win 7).index t = ![0, 0]
    ∧ (cfg0.win 8).index t = ![0, 0] ∧ (cfg0.win 9).index t = ![0, 0]
    ∧ (cfg0.win 10).index t = ![t.val / 9 * 8 + (t.val % 9 - 1), 0, 0] := by
  decide +kernel

/-- What the parameters' windows stage. -/
theorem iblk_wx (c : Dev nD) (t : Fin cfg0.N) (d o : Fin 256) : iblk m c 2 t (ix2 d o) = V m c main_v7 (ix2 d o) := by
  blk_ext [iblk, (idx t).2.2.1]
theorem iblk_wn (c : Dev nD) (t : Fin cfg0.N) (d o : Fin 256) : iblk m c 3 t (ix2 d o) = V m c main_v8 (ix2 d o) := by
  blk_ext [iblk, (idx t).2.2.2.1]
theorem iblk_wr (c : Dev nD) (t : Fin cfg0.N) (d o : Fin 256) : iblk m c 4 t (ix2 d o) = V m c main_v9 (ix2 d o) := by
  blk_ext [iblk, (idx t).2.2.2.2.1]
theorem iblk_bx (c : Dev nD) (t : Fin cfg0.N) (o : Fin 256) : iblk m c 5 t (ix2 (0 : Fin 1) o) = V m c main_v10 (ix2 (0 : Fin 1) o) := by
  blk_ext [iblk, (idx t).2.2.2.2.2.1]
theorem iblk_bn (c : Dev nD) (t : Fin cfg0.N) (o : Fin 256) : iblk m c 6 t (ix2 (0 : Fin 1) o) = V m c main_v11 (ix2 (0 : Fin 1) o) := by
  blk_ext [iblk, (idx t).2.2.2.2.2.2.1]
theorem iblk_br (c : Dev nD) (t : Fin cfg0.N) (o : Fin 256) : iblk m c 7 t (ix2 (0 : Fin 1) o) = V m c main_v12 (ix2 (0 : Fin 1) o) := by
  blk_ext [iblk, (idx t).2.2.2.2.2.2.2.1]
theorem iblk_ga (c : Dev nD) (t : Fin cfg0.N) (o : Fin 768) : iblk m c 8 t (ix2 (0 : Fin 1) o) = V m c main_v13 (ix2 (0 : Fin 1) o) := by
  blk_ext [iblk, (idx t).2.2.2.2.2.2.2.2.1]
theorem iblk_be (c : Dev nD) (t : Fin cfg0.N) (o : Fin 768) : iblk m c 9 t (ix2 (0 : Fin 1) o) = V m c main_v14 (ix2 (0 : Fin 1) o) := by
  blk_ext [iblk, (idx t).2.2.2.2.2.2.2.2.2.1]

/-- What the two graph windows stage: the point's graph and the other one. -/
theorem iblk_self (c : Dev nD) (t : Fin cfg0.N) (r : Fin 3072) (d : Fin 256) (h : t.val / 9 < 2) :
    iblk m c 0 t (ix3 (0 : Fin 1) r d) = V m c main_v6 (ix3 (⟨t.val / 9, h⟩ : Fin 2) r d) := by
  blk_ext [iblk, (idx t).1]
theorem iblk_other (c : Dev nD) (t : Fin cfg0.N) (r : Fin 3072) (d : Fin 256) :
    iblk m c 1 t (ix3 (0 : Fin 1) r d) = V m c main_v6 (ix3 (⟨1 - t.val / 9, by omega⟩ : Fin 2) r d) := by
  blk_ext [iblk, (idx t).2.1]

/-! ## From real arguments -/

section Real

variable {m} {c : Dev nD} {P : Params} {x y : Feat} (hX : Ref.Holds (m ((c.tc : Thread nD τ).loc main_arg0)) x)
  (hY : Ref.Holds (m ((c.tc : Thread nD τ).loc main_arg1)) y)
  (hP : Ref.HoldsParams P (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)))

include hX hY in
/-- The stacked graphs hold both graphs' features. -/
theorem graphs_apply (g : Fin 2) (b : Fin 8) (n : Fin 64) (p : Fin 6) (d : Fin 256) :
    V m c main_v6 (ix3 g (row b n p) d) = ((pick x y g.val b n p d : ℝ) : EReal) := by
  rw [V_graphs]
  have h0 := graphT_apply hX b n p d
  have h1 := graphT_apply hY b n p d
  generalize graphT (m ((c.tc : Thread nD τ).loc main_arg0)) = A at h0 ⊢
  generalize graphT (m ((c.tc : Thread nD τ).loc main_arg1)) = B at h1 ⊢
  match g with
  | ⟨0, _⟩ =>
    pointwise []
    exact h0
  | ⟨1, _⟩ =>
    pointwise []
    exact h1

include hX hY in
theorem self_holds (t : Fin cfg0.N) : Holds (iblk m c 0 t) (pick x y (t.val / 9)) := fun b n p d => by
  have hN : t.val < 18 := lt_of_lt_of_eq t.isLt N_0
  rw [iblk_self m c t _ _ (by omega), graphs_apply hX hY]

include hX hY in
theorem other_holds (t : Fin cfg0.N) : Holds (iblk m c 1 t) (pick x y (1 - t.val / 9)) := fun b n p d => by
  rw [iblk_other m c t, graphs_apply hX hY]

include hP in
theorem wx_holds (t : Fin cfg0.N) (o d : Fin 256) : iblk m c 2 t (ix2 d o) = ((P.wx o d : ℝ) : EReal) := by
  rw [iblk_wx, V_wx, ← hP.wx]
  pointwise []
include hP in
theorem wn_holds (t : Fin cfg0.N) (o d : Fin 256) : iblk m c 3 t (ix2 d o) = ((P.wn o d : ℝ) : EReal) := by
  rw [iblk_wn, V_wn, ← hP.wn]
  pointwise []
include hP in
theorem wr_holds (t : Fin cfg0.N) (o d : Fin 256) : iblk m c 4 t (ix2 d o) = ((P.wr o d : ℝ) : EReal) := by
  rw [iblk_wr, V_wr, ← hP.wr]
  pointwise []
include hP in
theorem bx_holds (t : Fin cfg0.N) (o : Fin 256) : iblk m c 5 t (ix2 (0 : Fin 1) o) = ((P.bx o : ℝ) : EReal) := by
  rw [iblk_bx, V_bx, ← hP.bx]
  pointwise []
include hP in
theorem bn_holds (t : Fin cfg0.N) (o : Fin 256) : iblk m c 6 t (ix2 (0 : Fin 1) o) = ((P.bn o : ℝ) : EReal) := by
  rw [iblk_bn, V_bn, ← hP.bn]
  pointwise []
include hP in
theorem br_holds (t : Fin cfg0.N) (o : Fin 256) : iblk m c 7 t (ix2 (0 : Fin 1) o) = ((P.br o : ℝ) : EReal) := by
  rw [iblk_br, V_br, ← hP.br]
  pointwise []
include hP in
theorem ga_holds (t : Fin cfg0.N) (o : Fin 768) : iblk m c 8 t (ix2 (0 : Fin 1) o) = ((P.ga o : ℝ) : EReal) := by
  rw [iblk_ga, V_ga, ← hP.ga]
  pointwise []
include hP in
theorem be_holds (t : Fin cfg0.N) (o : Fin 768) : iblk m c 9 t (ix2 (0 : Fin 1) o) = ((P.be o : ℝ) : EReal) := by
  rw [iblk_be, V_be, ← hP.be]
  pointwise []

include hX hY hP in
/-- The activations that a first point computes. -/
theorem hid_holds (t : Fin cfg0.N) (b : Fin 8) (n : Fin 64) (p : Fin 6) (k : Fin 768) :
    hidK (iblk m c 0 t) (iblk m c 1 t) (iblk m c 2 t) (iblk m c 3 t) (iblk m c 4 t) (iblk m c 5 t) (iblk m c 6 t) (iblk m c 7 t)
      (ix2 (row b n p) k) = ((act P (pick x y (t.val / 9)) (pick x y (1 - t.val / 9)) b n p k : ℝ) : EReal) :=
  actK_apply (ownK_apply (self_holds hX hY t) (wx_holds hP t) (bx_holds hP t))
    (aroundK_apply (self_holds hX hY t) (wn_holds hP t) (bn_holds hP t))
    (crossK_apply (self_holds hX hY t) (other_holds hX hY t) (wr_holds hP t) (br_holds hP t)) b n p k

/-- A product of two arrays of reals. -/
theorem mul_holds {h : FVec Ideal S3072x768 .f32} {f : Fin 8 → Fin 64 → Fin 6 → Fin 768 → ℝ}
    (hf : ∀ b n p c, h (ix2 (row b n p) c) = ((f b n p c : ℝ) : EReal)) (b : Fin 8) (n : Fin 64) (p : Fin 6) (c : Fin 768) :
    mulf h h (ix2 (row b n p) c) = ((f b n p c * f b n p c : ℝ) : EReal) := by
  pointwise []
  rw [hf, ← EReal.coe_mul]

variable (m c) in
/-- The scratch after any point is what its run's first point left. -/
theorem scratch_held (t : Fin cfg0.N) :
    (outsAt0 m c t.val t.isLt).2 = (outsAt0 m c (9 * (t.val / 9)) (Pipeline.run_start_lt t)).2 :=
  Pipeline.eq_of_write_hold (fun n h => (outsAt0 m c n h).2) 9 (fun t => (outsAt0 m c t.val t.isLt).2) (fun _ _ => rfl)
    (fun t h => later_scratch m c t h) t

include hX hY hP in
/-- What a later point writes. -/
theorem block_holds (t : Fin cfg0.N) (h0 : ¬t.val % 9 = 0) (k : Fin 8) (hk : t.val % 9 = k.val + 1) (r : Fin 384) (d : Fin 768) :
    (outsAt0 m c t.val t.isLt).1 (ix3 (0 : Fin 1) r d)
      = ((out P (pick x y (t.val / 9)) (pick x y (1 - t.val / 9)) k ⟨r.val % 64, by omega⟩ ⟨r.val / 64, by omega⟩ d : ℝ) : EReal) := by
  rw [later_block m c t h0 k hk, scratch_held m c t]
  have e0 : (⟨9 * (t.val / 9), Pipeline.run_start_lt t⟩ : Fin cfg0.N).val % 9 = 0 := Nat.mul_mod_right 9 _
  have e1 : 9 * (t.val / 9) / 9 = t.val / 9 := Nat.mul_div_cancel_left _ (by norm_num)
  have hh := hid_holds hX hY hP ⟨9 * (t.val / 9), Pipeline.run_start_lt t⟩
  simp only [e1] at hh
  rw [first_hid m c ⟨9 * (t.val / 9), Pipeline.run_start_lt t⟩ e0 (by rw [e0]; norm_num),
    first_sum m c ⟨9 * (t.val / 9), Pipeline.run_start_lt t⟩ e0 (by rw [e0]; norm_num),
    first_sq m c ⟨9 * (t.val / 9), Pipeline.run_start_lt t⟩ e0 (by rw [e0]; norm_num)]
  refine blockK_apply (fun b n p d => ?_) (sumK_apply hh) (sumK_apply (mul_holds hh)) (ga_holds hP t) (be_holds hP t) k r d
  rw [← hh]
  pointwise []

/-- Both results as the region leaves them: sixteen batches of rows, the first graph's before the second's. -/
def resK (P : Params) (x y : Feat) : FVec Ideal S16x384x768 .f32 := fun i =>
  ((out P (pick x y ((i 0).val / 8)) (pick x y (1 - (i 0).val / 8)) ⟨(i 0).val % 8, by omega⟩ ⟨(i 1).val % 64, by omega⟩
    ⟨(i 1).val / 64, by have h : (i 1).val < 384 := (i 1).isLt; omega⟩ (i 2) : ℝ) : EReal)

include hX hY hP in
/-- The region's output array. -/
theorem arr_eq : (dats m 0 c).arrAt 10 cfg0.N = resK P x y := by
  refine (dats m 0 c).arrAt_eq_of_covers 10 _ (by decide +kernel) fun t hf z => ?_
  blk_simp
  rw [after0_10]
  have h0 : ¬t.val % 9 = 0 := fun e => by
    have := noFlush0_10_A t ((hcond0_0 t).mpr e) (fun h => by have := (hcond0_1 t).mp h; omega)
    rw [this] at hf
    exact Bool.false_ne_true hf
  have hN : t.val < 18 := lt_of_lt_of_eq t.isLt N_0
  idx_vars z
  obtain rfl : z0 = 0 := Subsingleton.elim _ _
  have he : ((View.whole main_v15).slice (win0_10.rect t)).emb (ix3 (0 : Fin 1) z1 z2)
      = (ix3 (⟨t.val / 9 * 8 + (t.val % 9 - 1), by omega⟩ : Fin 16) z1 z2 : S16x384x768.Idx) := by
    blk_ext [(idx t).2.2.2.2.2.2.2.2.2.2]
  have e0 : (t.val / 9 * 8 + (t.val % 9 - 1)) / 8 = t.val / 9 := by omega
  have e1 : (t.val / 9 * 8 + (t.val % 9 - 1)) % 8 = t.val % 9 - 1 := by omega
  refine (block_holds hX hY hP t h0 ⟨t.val % 9 - 1, by omega⟩ (by simp only []; omega) z1 z2).trans ?_
  refine Eq.trans ?_ (congrArg (resK P x y) he).symm
  show _ = ((out P (pick x y ((t.val / 9 * 8 + (t.val % 9 - 1)) / 8)) (pick x y (1 - (t.val / 9 * 8 + (t.val % 9 - 1)) / 8))
    ⟨(t.val / 9 * 8 + (t.val % 9 - 1)) % 8, _⟩ ⟨z1.val % 64, _⟩ ⟨z1.val / 64, _⟩ z2 : ℝ) : EReal)
  simp only [e0, e1]

end Real

/-! ## The lines after the region -/

/-- At the region's exit the output's buffer holds the output array. -/
theorem exit_arr (c : Dev nD) : Pipeline.withArrays (cfgs 0).spec c (V0 m c) (fun w => (dats m 0 c).arrAt w (cfgs 0).N) (Proc.devRef .tc main_v15)
    = (dats m 0 c).arrAt 10 cfg0.N :=
  Pipeline.withArrays_arr_shared spec0 c (V0 m c) (fun w => (dats m 0 c).arrAt w (cfgs 0).N)
    (Pipeline.Dat.arrAt_sharedIn (dats m 0 c) sharedIn0 (V0 m c) (fun _ => rfl) _) 10

/-- The first result: the first graph's batches, reordered. -/
theorem tail_first (c : Dev nD) : Pipeline.afterTail₀ cfgs (dats m) 0 (V0 m) [hostOps1] c main_v18 =
    transpose S8x64x6x768 [0, 2, 1, 3] (shapeCast S8x6x64x768 (extractStridedSlice S8x384x768 ![0, 0, 0] ((dats m 0 c).arrAt 10 cfg0.N)
      slices_S16x384x768_S8x384x768_0_0_0) shapeCasts_S8x384x768_S8x6x64x768) transposes_S8x6x64x768_S8x64x6x768_0_2_1_3 := by
  unfold Pipeline.afterTail₀
  simp only [hostOps1, List.flatten_cons, List.flatten_nil, List.append_nil]
  after_results
  rw [exit_arr]
  rfl

/-- The second result: the second graph's batches, reordered. -/
theorem tail_second (c : Dev nD) : Pipeline.afterTail₀ cfgs (dats m) 0 (V0 m) [hostOps1] c main_v21 =
    transpose S8x64x6x768 [0, 2, 1, 3] (shapeCast S8x6x64x768 (extractStridedSlice S8x384x768 ![8, 0, 0] ((dats m 0 c).arrAt 10 cfg0.N)
      slices_S16x384x768_S8x384x768_8_0_0) shapeCasts_S8x384x768_S8x6x64x768) transposes_S8x6x64x768_S8x64x6x768_0_2_1_3 := by
  unfold Pipeline.afterTail₀
  simp only [hostOps1, List.flatten_cons, List.flatten_nil, List.append_nil]
  after_results
  rw [exit_arr]
  rfl

/-- The first graph's batches of the output array, reordered. -/
theorem first_apply (P : Params) (x y : Feat) : transpose S8x64x6x768 [0, 2, 1, 3] (shapeCast S8x6x64x768 (extractStridedSlice S8x384x768 ![0, 0, 0] (resK P x y)
      slices_S16x384x768_S8x384x768_0_0_0) shapeCasts_S8x384x768_S8x6x64x768) transposes_S8x6x64x768_S8x64x6x768_0_2_1_3
    = fun j : S8x64x6x768.Idx => ((out P x y (j 0) (j 1) (j 2) (j 3) : ℝ) : EReal) := by
  funext j
  idx_vars j
  pointwise []
  have e0 : j0.val / 8 = 0 := by omega
  have e1 : j0.val % 8 = j0.val := by omega
  have e2 : (j2.val * 64 + j1.val) % 64 = j1.val := by omega
  have e3 : (j2.val * 64 + j1.val) / 64 = j2.val := by omega
  show ((out P (pick x y (j0.val / 8)) (pick x y (1 - j0.val / 8)) ⟨j0.val % 8, _⟩ ⟨(j2.val * 64 + j1.val) % 64, _⟩
    ⟨(j2.val * 64 + j1.val) / 64, _⟩ j3 : ℝ) : EReal) = _
  simp only [e0, e1, e2, e3]
  rfl

/-- The second graph's batches of the output array, reordered. -/
theorem second_apply (P : Params) (x y : Feat) : transpose S8x64x6x768 [0, 2, 1, 3] (shapeCast S8x6x64x768 (extractStridedSlice S8x384x768 ![8, 0, 0] (resK P x y)
      slices_S16x384x768_S8x384x768_8_0_0) shapeCasts_S8x384x768_S8x6x64x768) transposes_S8x6x64x768_S8x64x6x768_0_2_1_3
    = fun j : S8x64x6x768.Idx => ((out P y x (j 0) (j 1) (j 2) (j 3) : ℝ) : EReal) := by
  funext j
  idx_vars j
  pointwise []
  have e0 : (8 + j0.val) / 8 = 1 := by omega
  have e1 : (8 + j0.val) % 8 = j0.val := by omega
  have e2 : (j2.val * 64 + j1.val) % 64 = j1.val := by omega
  have e3 : (j2.val * 64 + j1.val) / 64 = j2.val := by omega
  show ((out P (pick x y ((8 + j0.val) / 8)) (pick x y (1 - (8 + j0.val) / 8)) ⟨(8 + j0.val) % 8, _⟩ ⟨(j2.val * 64 + j1.val) % 64, _⟩
    ⟨(j2.val * 64 + j1.val) / 64, _⟩ j3 : ℝ) : EReal) = _
  simp only [e0, e1, e2, e3]
  rfl

/-- The kernel's run at real arguments: both results, and the arguments unchanged. -/
theorem run (ρ : Dev nD → PrngReg) (P : Dev nD → Params) (x y : Dev nD → Feat)
    (hX : ∀ c : Dev nD, Ref.Holds (m ((c.tc : Thread nD τ).loc main_arg0)) (x c)) (hY : ∀ c : Dev nD, Ref.Holds (m ((c.tc : Thread nD τ).loc main_arg1)) (y c))
    (hP : ∀ c : Dev nD, Ref.HoldsParams (P c) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))) :
    θ_run defs (onTc (τ := τ) (main (F := Ideal))) ⟨m, fun _ => 0, ρ⟩ fun r => ∀ c : Dev nD,
      r.2.mem ((c.tc : Thread nD τ).loc main_v18) = (fun j : S8x64x6x768.Idx => ((out (P c) (x c) (y c) (j 0) (j 1) (j 2) (j 3) : ℝ) : EReal))
      ∧ r.2.mem ((c.tc : Thread nD τ).loc main_v21) = (fun j : S8x64x6x768.Idx => ((out (P c) (y c) (x c) (j 0) (j 1) (j 2) (j 3) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨
    ((h c).2 main_v18 (Pipeline.mem_restRefs_of main_v18 (by decide) (by decide))).trans
      ((tail_first m c).trans (by rw [arr_eq (hX c) (hY c) (hP c), first_apply])),
    ((h c).2 main_v21 (Pipeline.mem_restRefs_of main_v21 (by decide) (by decide))).trans
      ((tail_second m c).trans (by rw [arr_eq (hX c) (hY c) (hP c), second_apply])),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c)⟩) (run_main m ρ)

end Cert.GraphConv.Ker

end
-- ==== Proof.Finite.lean ====
/- The precondition read: when every float argument's entries are finite, each of them is a real number. -/
module

public import proofs.«01_k».proof.Defs
public import proofs.«01_k».proof.Proof.Reals

@[expose] public section

set_option maxRecDepth 16384

noncomputable section

namespace Cert.GraphConv.Finite

open Cert.Pre_finite Idealize.ShloMosaic

/-- The pattern of the largest value denotes the top. -/
theorem ofBits_posInf : Ideal.ofBits .f32 0x7F800000#32 = ⊤ := by
  simp [Ideal.ofBits, Ideal.ieee]

/-- A conjunction of two bits is one exactly when both are. -/
theorem and_eq_one (a b : BitVec 1) : a &&& b = 1#1 ↔ a = 1#1 ∧ b = 1#1 := by
  revert a b; decide

/-- A conjunction over a list is one only if every member is, and what it started from. -/
theorem foldl_and {α : Type} (f : α → BitVec 1) (l : List α) (z : BitVec 1) (h : l.foldl (fun r n => IntOp.andi r (f n)) z = 1#1) :
    z = 1#1 ∧ ∀ n ∈ l, f n = 1#1 := by
  induction l generalizing z with
  | nil => exact ⟨h, fun _ hn => nomatch hn⟩
  | cons a l ih =>
    obtain ⟨h₁, h₂⟩ := ih _ h
    obtain ⟨h₃, h₄⟩ := (and_eq_one _ _).1 h₁
    exact ⟨h₃, fun n hn => (List.mem_cons.1 hn).elim (fun e => e ▸ h₄) (h₂ n)⟩

/-- An extended real whose absolute value is below the top is a real number. -/
theorem real_of_lt (a : EReal) (h : Ideal.cmp .olt (max a (-a)) ⊤ = 1#1) : a = ((a.toReal : ℝ) : EReal) := by
  have h' : max a (-a) < ⊤ := by
    by_contra hn
    simp [Ideal.cmp, hn] at h
  refine (EReal.coe_toReal ?_ ?_).symm
  · rintro rfl; simp at h'
  · rintro rfl; simp at h'

/-- The bit "every entry of this array is finite" makes every entry a real number. -/
theorem entries {s : Shape} {d : List (Fin s.rank)} (a : FVec Ideal s .f32) (hb : S_.BroadcastsInDim s (![] : Fin 0 → Fin s.rank))
    (h : s.ReducesTo d S_) (hu : 0 < S_.numel) (j : S_.Idx)
    (e : Host.reduce IntOp.andi (cmpf .olt (Host.absf a) (broadcastInDim s ![] hb (constant (F := Ideal) S_ .f32 0x7F800000#32)))
      (constantI S_ 1 1#1) h hu j = 1#1) (i : s.Idx) : a i = (((a i).toReal : ℝ) : EReal) := by
  refine real_of_lt _ ?_
  rw [← ofBits_posInf]
  have := (foldl_and _ _ _ e).2 (s.rowMajor i) (List.mem_filter.2 ⟨List.mem_finRange _, by
    simp only [decide_eq_true_eq]; funext k; exact k.elim0⟩)
  rw [Equiv.symm_apply_apply] at this
  exact this

/-- Every argument the precondition speaks of has real entries. -/
theorem args [Facts] (a0 a1 : FVec Ideal S8x64x6x256 .f32) (a2 a3 : FVec Ideal S8x64x64 .f32) (a4 : FVec Ideal S256x256 .f32)
    (a5 : FVec Ideal S256 .f32) (a6 : FVec Ideal S256x256 .f32) (a7 : FVec Ideal S256 .f32) (a8 : FVec Ideal S256x256 .f32)
    (a9 : FVec Ideal S256 .f32) (a10 a11 : FVec Ideal S768 .f32) (j : S_.Idx)
    (h : fn (F := Ideal) a0 a1 a2 a3 a4 a5 a6 a7 a8 a9 a10 a11 j = 1#1) :
    (∀ i, a0 i = (((a0 i).toReal : ℝ) : EReal)) ∧ (∀ i, a1 i = (((a1 i).toReal : ℝ) : EReal))
    ∧ (∀ i, a4 i = (((a4 i).toReal : ℝ) : EReal)) ∧ (∀ i, a5 i = (((a5 i).toReal : ℝ) : EReal))
    ∧ (∀ i, a6 i = (((a6 i).toReal : ℝ) : EReal)) ∧ (∀ i, a7 i = (((a7 i).toReal : ℝ) : EReal))
    ∧ (∀ i, a8 i = (((a8 i).toReal : ℝ) : EReal)) ∧ (∀ i, a9 i = (((a9 i).toReal : ℝ) : EReal))
    ∧ (∀ i, a10 i = (((a10 i).toReal : ℝ) : EReal)) ∧ (∀ i, a11 i = (((a11 i).toReal : ℝ) : EReal)) := by
  obtain ⟨h, e11⟩ := (and_eq_one _ _).1 h
  obtain ⟨h, e10⟩ := (and_eq_one _ _).1 h
  obtain ⟨h, e9⟩ := (and_eq_one _ _).1 h
  obtain ⟨h, e8⟩ := (and_eq_one _ _).1 h
  obtain ⟨h, e7⟩ := (and_eq_one _ _).1 h
  obtain ⟨h, e6⟩ := (and_eq_one _ _).1 h
  obtain ⟨h, e5⟩ := (and_eq_one _ _).1 h
  obtain ⟨h, e4⟩ := (and_eq_one _ _).1 h
  obtain ⟨e0, e1⟩ := (and_eq_one _ _).1 h
  exact ⟨entries _ _ _ _ _ e0, entries _ _ _ _ _ e1, entries _ _ _ _ _ e4, entries _ _ _ _ _ e5, entries _ _ _ _ _ e6,
    entries _ _ _ _ _ e7, entries _ _ _ _ _ e8, entries _ _ _ _ _ e9, entries _ _ _ _ _ e10, entries _ _ _ _ _ e11⟩

end Cert.GraphConv.Finite

end
-- ==== Proof.Claims.lean ====
/- The claims that are not the kernel's generated frame: the reference's frame and the agreement of the two programs. -/
module

public import proofs.«01_k».proof.Defs
public import proofs.«01_k».proof.Proof.KerRun
public import proofs.«01_k».proof.Proof.Finite
public import proofs.«01_k».proof.Proof.Gen.Pre_finite
public import Idealize.ShloMosaic.Lib.Quiescent

@[expose] public section

set_option maxRecDepth 16384

noncomputable section

namespace Cert.GraphConv

open Idealize.ShloMosaic Idealize.ShloMosaic.TcCoe Idealize.SL.Sem

/-- The reference terminates, leaves its arguments unchanged and every semaphore at zero. -/
theorem ref_quiescent : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩)
    (Cert.ReferenceIdeal.Value.run (F := Ideal) m g)

section Agree

variable (m : (ℓ : Loc Cert.KernelIdeal.nD Cert.KernelIdeal.τ Cert.KernelIdeal.sig) → Buf (Elt Ideal) ℓ)

/-- The first graph's features, as reals. -/
def featX (c : Dev Cert.KernelIdeal.nD) : Feat := fun b n p d =>
  ((m ((c.tc : Thread Cert.KernelIdeal.nD Cert.KernelIdeal.τ).loc Cert.KernelIdeal.main_arg0) : FVec Ideal Cert.KernelIdeal.S8x64x6x256 .f32) (ix4 b n p d)).toReal

/-- The second graph's features, as reals. -/
def featY (c : Dev Cert.KernelIdeal.nD) : Feat := fun b n p d =>
  ((m ((c.tc : Thread Cert.KernelIdeal.nD Cert.KernelIdeal.τ).loc Cert.KernelIdeal.main_arg1) : FVec Ideal Cert.KernelIdeal.S8x64x6x256 .f32) (ix4 b n p d)).toReal

/-- The layer's parameters, as reals. -/
def params (c : Dev Cert.KernelIdeal.nD) : Params where
  wx o d := ((m ((c.tc : Thread Cert.KernelIdeal.nD Cert.KernelIdeal.τ).loc Cert.KernelIdeal.main_arg4) : FVec Ideal Cert.KernelIdeal.S256x256 .f32) (ix2 o d)).toReal
  bx o := ((m ((c.tc : Thread Cert.KernelIdeal.nD Cert.KernelIdeal.τ).loc Cert.KernelIdeal.main_arg5) : FVec Ideal Cert.KernelIdeal.S256 .f32) (ix1 o)).toReal
  wn o d := ((m ((c.tc : Thread Cert.KernelIdeal.nD Cert.KernelIdeal.τ).loc Cert.KernelIdeal.main_arg6) : FVec Ideal Cert.KernelIdeal.S256x256 .f32) (ix2 o d)).toReal
  bn o := ((m ((c.tc : Thread Cert.KernelIdeal.nD Cert.KernelIdeal.τ).loc Cert.KernelIdeal.main_arg7) : FVec Ideal Cert.KernelIdeal.S256 .f32) (ix1 o)).toReal
  wr o d := ((m ((c.tc : Thread Cert.KernelIdeal.nD Cert.KernelIdeal.τ).loc Cert.KernelIdeal.main_arg8) : FVec Ideal Cert.KernelIdeal.S256x256 .f32) (ix2 o d)).toReal
  br o := ((m ((c.tc : Thread Cert.KernelIdeal.nD Cert.KernelIdeal.τ).loc Cert.KernelIdeal.main_arg9) : FVec Ideal Cert.KernelIdeal.S256 .f32) (ix1 o)).toReal
  ga o := ((m ((c.tc : Thread Cert.KernelIdeal.nD Cert.KernelIdeal.τ).loc Cert.KernelIdeal.main_arg10) : FVec Ideal Cert.KernelIdeal.S768 .f32) (ix1 o)).toReal
  be o := ((m ((c.tc : Thread Cert.KernelIdeal.nD Cert.KernelIdeal.τ).loc Cert.KernelIdeal.main_arg11) : FVec Ideal Cert.KernelIdeal.S768 .f32) (ix1 o)).toReal

/-- Under the precondition the arguments hold those reals. -/
theorem holds_args (h : Cert.Pre_KernelIdeal_finite (hPre_finite := Cert.Pre_finite.Gen.facts) m) (c : Dev Cert.KernelIdeal.nD) :
    Ref.Holds (m ((c.tc : Thread Cert.KernelIdeal.nD Cert.KernelIdeal.τ).loc Cert.KernelIdeal.main_arg0)) (featX m c)
    ∧ Ref.Holds (m ((c.tc : Thread Cert.KernelIdeal.nD Cert.KernelIdeal.τ).loc Cert.KernelIdeal.main_arg1)) (featY m c)
    ∧ Ref.HoldsParams (params m c) (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)) := by
  letI := Cert.Pre_finite.Gen.facts
  obtain ⟨h0, h1, h4, h5, h6, h7, h8, h9, h10, h11⟩ := Finite.args _ _ _ _ _ _ _ _ _ _ _ _ _ (congrFun (h c) (fun k => k.elim0))
  exact ⟨fun b n p d => h0 _, fun b n p d => h1 _, ⟨fun o d => h4 _, fun o => h5 _, fun o d => h6 _, fun o => h7 _, fun o d => h8 _,
    fun o => h9 _, fun o => h10 _, fun o => h11 _⟩⟩

end Agree

/-- From equal finite arguments the two programs end with equal results. -/
theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre ha
  refine ⟨_, _, Ker.run m g (params m) (featX m) (featY m) (fun c => (holds_args m hpre c).1) (fun c => (holds_args m hpre c).2.1)
    (fun c => (holds_args m hpre c).2.2), Ref.run m' g' (params m) (featX m) (featY m) (fun c => ?_) (fun c => ?_) (fun c => ?_)⟩
  · rw [(ha c).1]; exact (holds_args m hpre c).1
  · rw [(ha c).2.1]; exact (holds_args m hpre c).2.1
  · obtain ⟨-, -, -, -, a4, a5, a6, a7, a8, a9, a10, a11⟩ := ha c
    rw [a4, a5, a6, a7, a8, a9, a10, a11]
    exact (holds_args m hpre c).2.2

end Cert.GraphConv

end
-- ==== Proof.lean ====
/- The certificate's claims, assembled: the frames of the kernel, of its ideal form and of the reference; the two named
   constants; and the agreement of the ideal kernel with the reference on both results (Proof/Claims.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The two named constants: each word idealizes to the fraction it rounds. -/
theorem constants : Cert.preserves_Kernel_KernelIdeal :=
  ⟨IdealRules.named_const.statement Cert.KernelIdeal.κ "inv_n" .f32 0x3C820821#32 ((1 / 63 : ℝ) : EReal) rfl,
    IdealRules.named_const.statement Cert.KernelIdeal.κ "inv_m" .f32 0x39AAAAAB#32 ((1 / 3072 : ℝ) : EReal) rfl⟩

/-- Every claim of the certificate. -/
theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  Cert.GraphConv.ref_quiescent,
  fun m g _ => Cert.GraphConv.ref_quiescent m g trivial,
  constants,
  Cert.GraphConv.agree⟩

end Cert.Proof

end
